-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  IdealRules.named_const.Statement Cert.KernelIdeal.κ "exp_scale" .f32 0x3E0293EE#32 (((Real.sqrt 128)⁻¹ * (Real.log 2)⁻¹ : ℝ) : EReal)
  ∧ IdealRules.named_const.Statement Cert.KernelIdeal.κ "mask" .f32 0xCE800000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S2x8192x9216 : Shape := ⟨3, ![2, 8192, 9216]⟩
abbrev S_ : Shape := ⟨0, ![]⟩

class Facts : Prop where
  bitsLt_bf16_f32 : FTy.bits .bf16 < FTy.bits .f32
  bcast_S_S2x8192x9216 : S_.BroadcastsInDim S2x8192x9216 (![] : Fin 0 → Fin S2x8192x9216.rank)
  reducesTo_S2x8192x9216_S_d0_1_2 : S2x8192x9216.ReducesTo [0, 1, 2] S_
  h_S_ : 0 < S_.numel

variable [Facts]

def fn {F : FTy → Type} [FloatOps F] (main_arg0 : FVec F S2x8192x9216 .bf16) : IVec S_ 1 :=
  let main_v0 : FVec F S2x8192x9216 .f32 := (extf .f32 · bitsLt_bf16_f32) main_arg0
  let main_v1 : FVec F S2x8192x9216 .f32 := Host.absf main_v0
  let main_cst : FVec F S_ .f32 := constant S_ .f32 0x7F800000#32
  let main_v2 : FVec F S2x8192x9216 .f32 := broadcastInDim S2x8192x9216 ![] bcast_S_S2x8192x9216 main_cst
  let main_v3 : IVec S2x8192x9216 1 := cmpf .olt main_v1 main_v2
  let main_c : IVec S_ 1 := constantI S_ 1 1#1
  let main_v4 : IVec S_ 1 := (fun x v => Host.reduce IntOp.andi x v reducesTo_S2x8192x9216_S_d0_1_2 h_S_) main_v3 main_c
  main_v4
-- ==== Kernel.lean ====
abbrev S2x8192x9216 : Shape := ⟨3, ![2, 8192, 9216]⟩
abbrev S2x8192x1024 : Shape := ⟨3, ![2, 8192, 1024]⟩
abbrev S1x256x512 : Shape := ⟨3, ![1, 256, 512]⟩
abbrev S1x8192x512 : Shape := ⟨3, ![1, 8192, 512]⟩
abbrev S4x32x128 : Shape := ⟨3, ![4, 32, 128]⟩
abbrev S4x8x144x1024 : Shape := ⟨4, ![4, 8, 144, 1024]⟩
abbrev S4x32x256 : Shape := ⟨3, ![4, 32, 256]⟩
abbrev S4x1024x256 : Shape := ⟨3, ![4, 1024, 256]⟩
abbrev S1x256x128 : Shape := ⟨3, ![1, 256, 128]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩
abbrev S128x256 : Shape := ⟨2, ![128, 256]⟩
abbrev S1x1x128x256 : Shape := ⟨4, ![1, 1, 128, 256]⟩
abbrev S16x1024 : Shape := ⟨2, ![16, 1024]⟩
abbrev S1x1x16x1024 : Shape := ⟨4, ![1, 1, 16, 1024]⟩
abbrev S1x32x128 : Shape := ⟨3, ![1, 32, 128]⟩
abbrev S32x128 : Shape := ⟨2, ![32, 128]⟩
abbrev S32x256 : Shape := ⟨2, ![32, 256]⟩
abbrev S256x256 : Shape := ⟨2, ![256, 256]⟩
abbrev S256 : Shape := ⟨1, ![256]⟩
abbrev S1x256 : Shape := ⟨2, ![1, 256]⟩
abbrev S1x32x256 : Shape := ⟨3, ![1, 32, 256]⟩
abbrev S1x1024x128 : Shape := ⟨3, ![1, 1024, 128]⟩
abbrev S1024x128 : Shape := ⟨2, ![1024, 128]⟩
abbrev S1024x256 : Shape := ⟨2, ![1024, 256]⟩
abbrev S1x1024x256 : Shape := ⟨3, ![1, 1024, 256]⟩
abbrev S16x256 : Shape := ⟨2, ![16, 256]⟩
abbrev S144x256 : Shape := ⟨2, ![144, 256]⟩
abbrev S1x1x256 : Shape := ⟨3, ![1, 1, 256]⟩
abbrev S1x1x144x1024 : Shape := ⟨4, ![1, 1, 144, 1024]⟩
abbrev S144x1024 : Shape := ⟨2, ![144, 1024]⟩

abbrev nBuf : Space → Nat
  | .hbm => 2
  | .vmem => 12
  | .smem => 0
  | _ => 0

abbrev bufTy : (tb : Table) → Fin (tcTables nBuf tb) → BufTy
  | .hbm, ⟨0, _⟩ => ⟨S2x8192x9216, .bf16⟩
  | .hbm, ⟨1, _⟩ => ⟨S2x8192x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x256x512, .bf16⟩
  | .local _ .vmem, ⟨7, _⟩ => ⟨S1x256x512, .bf16⟩
  | .local _ .vmem, ⟨8, _⟩ => ⟨S4x32x128, .f32⟩
  | .local _ .vmem, ⟨9, _⟩ => ⟨S4x8x144x1024, .bf16⟩
  | .local _ .vmem, ⟨10, _⟩ => ⟨S4x32x256, .f32⟩
  | .local _ .vmem, ⟨11, _⟩ => ⟨S4x1024x256, .f32⟩
  | _, _ => ⟨S2x8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 32], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_214 : BitVec 32 := 0#32
  let c8_i32 : BitVec 32 := 8#32
  let v451 : BitVec 32 := Scalar.addi c0_i32_214 c8_i32
  let c1_i32_215 : BitVec 32 := 1#32
  ⟨c0_i32_214, v451, c1_i32_215⟩
def k0_mult1 (k0_t1 : Fin k0_t1_loop.trips) : BitVec 32 :=
  let c0_i32_214 : BitVec 32 := 0#32
  let c1_i32_215 : BitVec 32 := 1#32
  let arg11 : BitVec 32 := Scf.iv c0_i32_214 c1_i32_215 k0_t1
  let c4_i32_217 : BitVec 32 := 4#32
  let v452 : BitVec 32 := Scalar.muli arg11 c4_i32_217
  let c0_i32_218 : BitVec 32 := 0#32
  let v453 : BitVec 32 := Scalar.addi v452 c0_i32_218
  let c256_i32_219 : BitVec 32 := 256#32
  let v454 : BitVec 32 := Scalar.muli v453 c256_i32_219
  v454
def k0_off1 (k0_t1 : Fin k0_t1_loop.trips) (c0_i32_218 : BitVec 32) : Fin 3 → Nat :=
  let c0_220 : Index := 0#32
  let c0_i32_214 : BitVec 32 := 0#32
  let c1_i32_215 : BitVec 32 := 1#32
  let arg11 : BitVec 32 := Scf.iv c0_i32_214 c1_i32_215 k0_t1
  let c4_i32_217 : BitVec 32 := 4#32
  let v452 : BitVec 32 := Scalar.muli arg11 c4_i32_217
  let v453 : BitVec 32 := Scalar.addi v452 c0_i32_218
  let c256_i32_219 : BitVec 32 := 256#32
  let v454 : BitVec 32 := Scalar.muli v453 c256_i32_219
  let v455 : BitVec 32 := v454
  let v456 : Index := Scalar.indexCast v455
  let c0_221 : Index := 0#32
  ![0, v456.toNat, 0]
def k0_off2 (k0_t1 : Fin k0_t1_loop.trips) (c0_i32_218 : BitVec 32) : Fin 3 → Nat :=
  let c0_224 : Index := 0#32
  let c0_i32_214 : BitVec 32 := 0#32
  let c1_i32_215 : BitVec 32 := 1#32
  let arg11 : BitVec 32 := Scf.iv c0_i32_214 c1_i32_215 k0_t1
  let c4_i32_217 : BitVec 32 := 4#32
  let v452 : BitVec 32 := Scalar.muli arg11 c4_i32_217
  let v453 : BitVec 32 := Scalar.addi v452 c0_i32_218
  let v464 : Index := Scalar.indexCast v453
  let c0_225 : Index := 0#32
  ![0, v464.toNat, 0]
def k0_off3 (k0_t1 : Fin k0_t1_loop.trips) : Fin 4 → Nat :=
  let c0_228 : Index := 0#32
  let c0_i32_214 : BitVec 32 := 0#32
  let c1_i32_215 : BitVec 32 := 1#32
  let arg11 : BitVec 32 := Scf.iv c0_i32_214 c1_i32_215 k0_t1
  let v472 : Index := Scalar.indexCast arg11
  let c0_229 : Index := 0#32
  let c0_230 : Index := 0#32
  ![0, v472.toNat, 0, 0]
def k0_off4 (k0_t1 : Fin k0_t1_loop.trips) (c0_i32_218 : BitVec 32) : Fin 3 → Nat :=
  let c0_231 : Index := 0#32
  let c0_i32_214 : BitVec 32 := 0#32
  let c1_i32_215 : BitVec 32 := 1#32
  let arg11 : BitVec 32 := Scf.iv c0_i32_214 c1_i32_215 k0_t1
  let c4_i32_217 : BitVec 32 := 4#32
  let v452 : BitVec 32 := Scalar.muli arg11 c4_i32_217
  let v453 : BitVec 32 := Scalar.addi v452 c0_i32_218
  let c256_i32_219 : BitVec 32 := 256#32
  let v454 : BitVec 32 := Scalar.muli v453 c256_i32_219
  let v455 : BitVec 32 := v454
  let v476 : Index := Scalar.indexCast v455
  let c128_232 : Index := 128#32
  ![0, v476.toNat, 128]
def k0_off5 (k0_t1 : Fin k0_t1_loop.trips) (c0_i32_218 : BitVec 32) : Fin 3 → Nat :=
  let c1_235 : Index := 1#32
  let c0_i32_214 : BitVec 32 := 0#32
  let c1_i32_215 : BitVec 32 := 1#32
  let arg11 : BitVec 32 := Scf.iv c0_i32_214 c1_i32_215 k0_t1
  let c4_i32_217 : BitVec 32 := 4#32
  let v452 : BitVec 32 := Scalar.muli arg11 c4_i32_217
  let v453 : BitVec 32 := Scalar.addi v452 c0_i32_218
  let v484 : Index := Scalar.indexCast v453
  let c0_236 : Index := 0#32
  ![1, v484.toNat, 0]
def k0_off6 (k0_t1 : Fin k0_t1_loop.trips) : Fin 4 → Nat :=
  let c1_239 : Index := 1#32
  let c0_i32_214 : BitVec 32 := 0#32
  let c1_i32_215 : BitVec 32 := 1#32
  let arg11 : BitVec 32 := Scf.iv c0_i32_214 c1_i32_215 k0_t1
  let v492 : Index := Scalar.indexCast arg11
  let c0_240 : Index := 0#32
  let c0_241 : Index := 0#32
  ![1, v492.toNat, 0, 0]
def k0_off7 (k0_t1 : Fin k0_t1_loop.trips) (c0_i32_218 : BitVec 32) : Fin 3 → Nat :=
  let c0_242 : Index := 0#32
  let c0_i32_214 : BitVec 32 := 0#32
  let c1_i32_215 : BitVec 32 := 1#32
  let arg11 : BitVec 32 := Scf.iv c0_i32_214 c1_i32_215 k0_t1
  let c4_i32_217 : BitVec 32 := 4#32
  let v452 : BitVec 32 := Scalar.muli arg11 c4_i32_217
  let v453 : BitVec 32 := Scalar.addi v452 c0_i32_218
  let c256_i32_219 : BitVec 32 := 256#32
  let v454 : BitVec 32 := Scalar.muli v453 c256_i32_219
  let v455 : BitVec 32 := v454
  let v496 : Index := Scalar.indexCast v455
  let c256_243 : Index := 256#32
  ![0, v496.toNat, 256]
def k0_off8 (k0_t1 : Fin k0_t1_loop.trips) (c0_i32_218 : BitVec 32) : Fin 3 → Nat :=
  let c2_246 : Index := 2#32
  let c0_i32_214 : BitVec 32 := 0#32
  let c1_i32_215 : BitVec 32 := 1#32
  let arg11 : BitVec 32 := Scf.iv c0_i32_214 c1_i32_215 k0_t1
  let c4_i32_217 : BitVec 32 := 4#32
  let v452 : BitVec 32 := Scalar.muli arg11 c4_i32_217
  let v453 : BitVec 32 := Scalar.addi v452 c0_i32_218
  let v504 : Index := Scalar.indexCast v453
  let c0_247 : Index := 0#32
  ![2, v504.toNat, 0]
def k0_off9 (k0_t1 : Fin k0_t1_loop.trips) : Fin 4 → Nat :=
  let c2_250 : Index := 2#32
  let c0_i32_214 : BitVec 32 := 0#32
  let c1_i32_215 : BitVec 32 := 1#32
  let arg11 : BitVec 32 := Scf.iv c0_i32_214 c1_i32_215 k0_t1
  let v512 : Index := Scalar.indexCast arg11
  let c0_251 : Index := 0#32
  let c0_252 : Index := 0#32
  ![2, v512.toNat, 0, 0]
def k0_off10 (k0_t1 : Fin k0_t1_loop.trips) (c0_i32_218 : BitVec 32) : Fin 3 → Nat :=
  let c0_253 : Index := 0#32
  let c0_i32_214 : BitVec 32 := 0#32
  let c1_i32_215 : BitVec 32 := 1#32
  let arg11 : BitVec 32 := Scf.iv c0_i32_214 c1_i32_215 k0_t1
  let c4_i32_217 : BitVec 32 := 4#32
  let v452 : BitVec 32 := Scalar.muli arg11 c4_i32_217
  let v453 : BitVec 32 := Scalar.addi v452 c0_i32_218
  let c256_i32_219 : BitVec 32 := 256#32
  let v454 : BitVec 32 := Scalar.muli v453 c256_i32_219
  let v455 : BitVec 32 := v454
  let v516 : Index := Scalar.indexCast v455
  let c384_254 : Index := 384#32
  ![0, v516.toNat, 384]
def k0_off11 (k0_t1 : Fin k0_t1_loop.trips) (c0_i32_218 : BitVec 32) : Fin 3 → Nat :=
  let c3_257 : Index := 3#32
  let c0_i32_214 : BitVec 32 := 0#32
  let c1_i32_215 : BitVec 32 := 1#32
  let arg11 : BitVec 32 := Scf.iv c0_i32_214 c1_i32_215 k0_t1
  let c4_i32_217 : BitVec 32 := 4#32
  let v452 : BitVec 32 := Scalar.muli arg11 c4_i32_217
  let v453 : BitVec 32 := Scalar.addi v452 c0_i32_218
  let v524 : Index := Scalar.indexCast v453
  let c0_258 : Index := 0#32
  ![3, v524.toNat, 0]
def k0_off12 (k0_t1 : Fin k0_t1_loop.trips) : Fin 4 → Nat :=
  let c3_261 : Index := 3#32
  let c0_i32_214 : BitVec 32 := 0#32
  let c1_i32_215 : BitVec 32 := 1#32
  let arg11 : BitVec 32 := Scf.iv c0_i32_214 c1_i32_215 k0_t1
  let v532 : Index := Scalar.indexCast arg11
  let c0_262 : Index := 0#32
  let c0_263 : Index := 0#32
  ![3, v532.toNat, 0, 0]
def k0_mult2 (k0_t1 : Fin k0_t1_loop.trips) : BitVec 32 :=
  let c0_i32_214 : BitVec 32 := 0#32
  let c1_i32_215 : BitVec 32 := 1#32
  let arg11 : BitVec 32 := Scf.iv c0_i32_214 c1_i32_215 k0_t1
  let c4_i32_264 : BitVec 32 := 4#32
  let v536 : BitVec 32 := Scalar.muli arg11 c4_i32_264
  let c1_i32_265 : BitVec 32 := 1#32
  let v537 : BitVec 32 := Scalar.addi v536 c1_i32_265
  let c256_i32_266 : BitVec 32 := 256#32
  let v538 : BitVec 32 := Scalar.muli v537 c256_i32_266
  v538
def k0_off13 (k0_t1 : Fin k0_t1_loop.trips) : Fin 4 → Nat :=
  let c0_275 : Index := 0#32
  let c0_i32_214 : BitVec 32 := 0#32
  let c1_i32_215 : BitVec 32 := 1#32
  let arg11 : BitVec 32 := Scf.iv c0_i32_214 c1_i32_215 k0_t1
  let v556 : Index := Scalar.indexCast arg11
  let c0_276 : Index := 0#32
  let c256_277 : Index := 256#32
  ![0, v556.toNat, 0, 256]
def k0_off14 (k0_t1 : Fin k0_t1_loop.trips) : Fin 4 → Nat :=
  let c1_286 : Index := 1#32
  let c0_i32_214 : BitVec 32 := 0#32
  let c1_i32_215 : BitVec 32 := 1#32
  let arg11 : BitVec 32 := Scf.iv c0_i32_214 c1_i32_215 k0_t1
  let v576 : Index := Scalar.indexCast arg11
  let c0_287 : Index := 0#32
  let c256_288 : Index := 256#32
  ![1, v576.toNat, 0, 256]
def k0_off15 (k0_t1 : Fin k0_t1_loop.trips) : Fin 4 → Nat :=
  let c2_297 : Index := 2#32
  let c0_i32_214 : BitVec 32 := 0#32
  let c1_i32_215 : BitVec 32 := 1#32
  let arg11 : BitVec 32 := Scf.iv c0_i32_214 c1_i32_215 k0_t1
  let v596 : Index := Scalar.indexCast arg11
  let c0_298 : Index := 0#32
  let c256_299 : Index := 256#32
  ![2, v596.toNat, 0, 256]
def k0_off16 (k0_t1 : Fin k0_t1_loop.trips) : Fin 4 → Nat :=
  let c3_308 : Index := 3#32
  let c0_i32_214 : BitVec 32 := 0#32
  let c1_i32_215 : BitVec 32 := 1#32
  let arg11 : BitVec 32 := Scf.iv c0_i32_214 c1_i32_215 k0_t1
  let v616 : Index := Scalar.indexCast arg11
  let c0_309 : Index := 0#32
  let c256_310 : Index := 256#32
  ![3, v616.toNat, 0, 256]
def k0_mult3 (k0_t1 : Fin k0_t1_loop.trips) : BitVec 32 :=
  let c0_i32_214 : BitVec 32 := 0#32
  let c1_i32_215 : BitVec 32 := 1#32
  let arg11 : BitVec 32 := Scf.iv c0_i32_214 c1_i32_215 k0_t1
  let c4_i32_311 : BitVec 32 := 4#32
  let v620 : BitVec 32 := Scalar.muli arg11 c4_i32_311
  let c2_i32_312 : BitVec 32 := 2#32
  let v621 : BitVec 32 := Scalar.addi v620 c2_i32_312
  let c256_i32_313 : BitVec 32 := 256#32
  let v622 : BitVec 32 := Scalar.muli v621 c256_i32_313
  v622
def k0_off17 (k0_t1 : Fin k0_t1_loop.trips) : Fin 4 → Nat :=
  let c0_322 : Index := 0#32
  let c0_i32_214 : BitVec 32 := 0#32
  let c1_i32_215 : BitVec 32 := 1#32
  let arg11 : BitVec 32 := Scf.iv c0_i32_214 c1_i32_215 k0_t1
  let v640 : Index := Scalar.indexCast arg11
  let c0_323 : Index := 0#32
  let c512 : Index := 512#32
  ![0, v640.toNat, 0, 512]
def k0_off18 (k0_t1 : Fin k0_t1_loop.trips) : Fin 4 → Nat :=
  let c1_332 : Index := 1#32
  let c0_i32_214 : BitVec 32 := 0#32
  let c1_i32_215 : BitVec 32 := 1#32
  let arg11 : BitVec 32 := Scf.iv c0_i32_214 c1_i32_215 k0_t1
  let v660 : Index := Scalar.indexCast arg11
  let c0_333 : Index := 0#32
  let c512_334 : Index := 512#32
  ![1, v660.toNat, 0, 512]
def k0_off19 (k0_t1 : Fin k0_t1_loop.trips) : Fin 4 → Nat :=
  let c2_343 : Index := 2#32
  let c0_i32_214 : BitVec 32 := 0#32
  let c1_i32_215 : BitVec 32 := 1#32
  let arg11 : BitVec 32 := Scf.iv c0_i32_214 c1_i32_215 k0_t1
  let v680 : Index := Scalar.indexCast arg11
  let c0_344 : Index := 0#32
  let c512_345 : Index := 512#32
  ![2, v680.toNat, 0, 512]
def k0_off20 (k0_t1 : Fin k0_t1_loop.trips) : Fin 4 → Nat :=
  let c3_354 : Index := 3#32
  let c0_i32_214 : BitVec 32 := 0#32
  let c1_i32_215 : BitVec 32 := 1#32
  let arg11 : BitVec 32 := Scf.iv c0_i32_214 c1_i32_215 k0_t1
  let v700 : Index := Scalar.indexCast arg11
  let c0_355 : Index := 0#32
  let c512_356 : Index := 512#32
  ![3, v700.toNat, 0, 512]
def k0_mult4 (k0_t1 : Fin k0_t1_loop.trips) : BitVec 32 :=
  let c0_i32_214 : BitVec 32 := 0#32
  let c1_i32_215 : BitVec 32 := 1#32
  let arg11 : BitVec 32 := Scf.iv c0_i32_214 c1_i32_215 k0_t1
  let c4_i32_357 : BitVec 32 := 4#32
  let v704 : BitVec 32 := Scalar.muli arg11 c4_i32_357
  let c3_i32 : BitVec 32 := 3#32
  let v705 : BitVec 32 := Scalar.addi v704 c3_i32
  let c256_i32_358 : BitVec 32 := 256#32
  let v706 : BitVec 32 := Scalar.muli v705 c256_i32_358
  v706
def k0_off21 (k0_t1 : Fin k0_t1_loop.trips) : Fin 4 → Nat :=
  let c0_367 : Index := 0#32
  let c0_i32_214 : BitVec 32 := 0#32
  let c1_i32_215 : BitVec 32 := 1#32
  let arg11 : BitVec 32 := Scf.iv c0_i32_214 c1_i32_215 k0_t1
  let v724 : Index := Scalar.indexCast arg11
  let c0_368 : Index := 0#32
  let c768 : Index := 768#32
  ![0, v724.toNat, 0, 768]
def k0_off22 (k0_t1 : Fin k0_t1_loop.trips) : Fin 4 → Nat :=
  let c1_377 : Index := 1#32
  let c0_i32_214 : BitVec 32 := 0#32
  let c1_i32_215 : BitVec 32 := 1#32
  let arg11 : BitVec 32 := Scf.iv c0_i32_214 c1_i32_215 k0_t1
  let v744 : Index := Scalar.indexCast arg11
  let c0_378 : Index := 0#32
  let c768_379 : Index := 768#32
  ![1, v744.toNat, 0, 768]
def k0_off23 (k0_t1 : Fin k0_t1_loop.trips) : Fin 4 → Nat :=
  let c2_388 : Index := 2#32
  let c0_i32_214 : BitVec 32 := 0#32
  let c1_i32_215 : BitVec 32 := 1#32
  let arg11 : BitVec 32 := Scf.iv c0_i32_214 c1_i32_215 k0_t1
  let v764 : Index := Scalar.indexCast arg11
  let c0_389 : Index := 0#32
  let c768_390 : Index := 768#32
  ![2, v764.toNat, 0, 768]
def k0_off24 (k0_t1 : Fin k0_t1_loop.trips) : Fin 4 → Nat :=
  let c3_399 : Index := 3#32
  let c0_i32_214 : BitVec 32 := 0#32
  let c1_i32_215 : BitVec 32 := 1#32
  let arg11 : BitVec 32 := Scf.iv c0_i32_214 c1_i32_215 k0_t1
  let v784 : Index := Scalar.indexCast arg11
  let c0_400 : Index := 0#32
  let c768_401 : Index := 768#32
  ![3, v784.toNat, 0, 768]
def k0_off25 (k0_t1 : Fin k0_t1_loop.trips) : Fin 4 → Nat :=
  let c0_403 : Index := 0#32
  let c0_i32_214 : BitVec 32 := 0#32
  let c1_i32_215 : BitVec 32 := 1#32
  let arg11 : BitVec 32 := Scf.iv c0_i32_214 c1_i32_215 k0_t1
  let v789 : Index := Scalar.indexCast arg11
  let c128_404 : Index := 128#32
  let c0_405 : Index := 0#32
  ![0, v789.toNat, 128, 0]
def k0_off26 (k0_t1 : Fin k0_t1_loop.trips) : Fin 4 → Nat :=
  let c1_407 : Index := 1#32
  let c0_i32_214 : BitVec 32 := 0#32
  let c1_i32_215 : BitVec 32 := 1#32
  let arg11 : BitVec 32 := Scf.iv c0_i32_214 c1_i32_215 k0_t1
  let v794 : Index := Scalar.indexCast arg11
  let c128_408 : Index := 128#32
  let c0_409 : Index := 0#32
  ![1, v794.toNat, 128, 0]
def k0_off27 (k0_t1 : Fin k0_t1_loop.trips) : Fin 4 → Nat :=
  let c2_411 : Index := 2#32
  let c0_i32_214 : BitVec 32 := 0#32
  let c1_i32_215 : BitVec 32 := 1#32
  let arg11 : BitVec 32 := Scf.iv c0_i32_214 c1_i32_215 k0_t1
  let v799 : Index := Scalar.indexCast arg11
  let c128_412 : Index := 128#32
  let c0_413 : Index := 0#32
  ![2, v799.toNat, 128, 0]
def k0_off28 (k0_t1 : Fin k0_t1_loop.trips) : Fin 4 → Nat :=
  let c3_415 : Index := 3#32
  let c0_i32_214 : BitVec 32 := 0#32
  let c1_i32_215 : BitVec 32 := 1#32
  let arg11 : BitVec 32 := Scf.iv c0_i32_214 c1_i32_215 k0_t1
  let v804 : Index := Scalar.indexCast arg11
  let c128_416 : Index := 128#32
  let c0_417 : Index := 0#32
  ![3, v804.toNat, 128, 0]
def k0_mult5 (i : grid0.Coords) : BitVec 32 :=
  let arg2 : BitVec 32 := BitVec.ofNat 32 (i 2).val
  let c256_i32 : BitVec 32 := 256#32
  let v3 : BitVec 32 := Scalar.muli arg2 c256_i32
  v3
def k0_off29 (i : grid0.Coords) : Fin 3 → Nat :=
  let c0_21 : Index := 0#32
  let arg2 : BitVec 32 := BitVec.ofNat 32 (i 2).val
  let c256_i32 : BitVec 32 := 256#32
  let v3 : BitVec 32 := Scalar.muli arg2 c256_i32
  let v4 : BitVec 32 := v3
  let v29 : Index := Scalar.indexCast v4
  let c0_22 : Index := 0#32
  ![0, v29.toNat, 0]
def k0_off30 (i : grid0.Coords) : Fin 3 → Nat :=
  let c0_25 : Index := 0#32
  let arg2 : BitVec 32 := BitVec.ofNat 32 (i 2).val
  let c256_i32 : BitVec 32 := 256#32
  let v3 : BitVec 32 := Scalar.muli arg2 c256_i32
  let v4 : BitVec 32 := v3
  let v35 : Index := Scalar.indexCast v4
  let c128_26 : Index := 128#32
  ![0, v35.toNat, 128]
def k0_off31 (i : grid0.Coords) : Fin 3 → Nat :=
  let c0_29 : Index := 0#32
  let arg2 : BitVec 32 := BitVec.ofNat 32 (i 2).val
  let c256_i32 : BitVec 32 := 256#32
  let v3 : BitVec 32 := Scalar.muli arg2 c256_i32
  let v4 : BitVec 32 := v3
  let v41 : Index := Scalar.indexCast v4
  let c256_30 : Index := 256#32
  ![0, v41.toNat, 256]
def k0_off32 (i : grid0.Coords) : Fin 3 → Nat :=
  let c0_33 : Index := 0#32
  let arg2 : BitVec 32 := BitVec.ofNat 32 (i 2).val
  let c256_i32 : BitVec 32 := 256#32
  let v3 : BitVec 32 := Scalar.muli arg2 c256_i32
  let v4 : BitVec 32 := v3
  let v47 : Index := Scalar.indexCast v4
  let c384_34 : Index := 384#32
  ![0, v47.toNat, 384]
def k0_mult6 : BitVec 32 :=
  let c0_i32_58 : BitVec 32 := 0#32
  c0_i32_58
def k0_mult7 : BitVec 32 :=
  let c0_i32_91 : BitVec 32 := 0#32
  c0_i32_91
def k0_mult8 : BitVec 32 :=
  let c0_i32_124 : BitVec 32 := 0#32
  c0_i32_124
def k0_mult9 : BitVec 32 :=
  let c0_i32_157 : BitVec 32 := 0#32
  c0_i32_157
@[reducible] def k0_t2_loop (i : grid0.Coords) : Scf.Loop 32 :=
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_196 : BitVec 32 := 1#32
  ⟨c0_i32_194, v408, c1_i32_196⟩
def k0_off33 (i : grid0.Coords) (k0_t2 : Fin (k0_t2_loop i).trips) (c0_i32_215 : BitVec 32) : Fin 3 → Nat :=
  let c0_216 : Index := 0#32
  let c0_i32_194 : BitVec 32 := 0#32
  let c1_i32_196 : BitVec 32 := 1#32
  let arg11 : BitVec 32 := Scf.iv c0_i32_194 c1_i32_196 k0_t2
  let c4_i32_214 : BitVec 32 := 4#32
  let v452 : BitVec 32 := Scalar.muli arg11 c4_i32_214
  let v453 : BitVec 32 := Scalar.addi v452 c0_i32_215
  let v454 : Index := Scalar.indexCast v453
  let c0_217 : Index := 0#32
  ![0, v454.toNat, 0]
def k0_mult10 (i : grid0.Coords) (k0_t2 : Fin (k0_t2_loop i).trips) : BitVec 32 :=
  let c0_i32_194 : BitVec 32 := 0#32
  let c1_i32_196 : BitVec 32 := 1#32
  let arg11 : BitVec 32 := Scf.iv c0_i32_194 c1_i32_196 k0_t2
  let c1_i32_210 : BitVec 32 := 1#32
  let v447 : BitVec 32 := Scalar.addi arg11 c1_i32_210
  let c7_i32 : BitVec 32 := 7#32
  let v448 : BitVec 32 := Scalar.minsi v447 c7_i32
  let c1024_i32 : BitVec 32 := 1024#32
  let v511 : BitVec 32 := Scalar.muli v448 c1024_i32
  v511
def k0_off34 (i : grid0.Coords) (k0_t2 : Fin (k0_t2_loop i).trips) : Fin 3 → Nat :=
  let c0_233 : Index := 0#32
  let c0_i32_194 : BitVec 32 := 0#32
  let c1_i32_196 : BitVec 32 := 1#32
  let arg11 : BitVec 32 := Scf.iv c0_i32_194 c1_i32_196 k0_t2
  let c1_i32_210 : BitVec 32 := 1#32
  let v447 : BitVec 32 := Scalar.addi arg11 c1_i32_210
  let c7_i32 : BitVec 32 := 7#32
  let v448 : BitVec 32 := Scalar.minsi v447 c7_i32
  let c1024_i32 : BitVec 32 := 1024#32
  let v511 : BitVec 32 := Scalar.muli v448 c1024_i32
  let v512 : BitVec 32 := v511
  let v513 : Index := Scalar.indexCast v512
  let c0_234 : Index := 0#32
  ![0, v513.toNat, 0]
def k0_off35 (i : grid0.Coords) (k0_t2 : Fin (k0_t2_loop i).trips) : Fin 4 → Nat :=
  let c0_240 : Index := 0#32
  let c0_i32_194 : BitVec 32 := 0#32
  let c1_i32_196 : BitVec 32 := 1#32
  let arg11 : BitVec 32 := Scf.iv c0_i32_194 c1_i32_196 k0_t2
  let v526 : Index := Scalar.indexCast arg11
  let c0_241 : Index := 0#32
  let c0_242 : Index := 0#32
  ![0, v526.toNat, 0, 0]
def k0_off36 (i : grid0.Coords) (k0_t2 : Fin (k0_t2_loop i).trips) (c0_i32_248 : BitVec 32) : Fin 3 → Nat :=
  let c1_249 : Index := 1#32
  let c0_i32_194 : BitVec 32 := 0#32
  let c1_i32_196 : BitVec 32 := 1#32
  let arg11 : BitVec 32 := Scf.iv c0_i32_194 c1_i32_196 k0_t2
  let c4_i32_247 : BitVec 32 := 4#32
  let v535 : BitVec 32 := Scalar.muli arg11 c4_i32_247
  let v536 : BitVec 32 := Scalar.addi v535 c0_i32_248
  let v537 : Index := Scalar.indexCast v536
  let c0_250 : Index := 0#32
  ![1, v537.toNat, 0]
def k0_mult11 (i : grid0.Coords) (k0_t2 : Fin (k0_t2_loop i).trips) : BitVec 32 :=
  let c0_i32_194 : BitVec 32 := 0#32
  let c1_i32_196 : BitVec 32 := 1#32
  let arg11 : BitVec 32 := Scf.iv c0_i32_194 c1_i32_196 k0_t2
  let c1_i32_210 : BitVec 32 := 1#32
  let v447 : BitVec 32 := Scalar.addi arg11 c1_i32_210
  let c7_i32 : BitVec 32 := 7#32
  let v448 : BitVec 32 := Scalar.minsi v447 c7_i32
  let c1024_i32_267 : BitVec 32 := 1024#32
  let v594 : BitVec 32 := Scalar.muli v448 c1024_i32_267
  v594
def k0_off37 (i : grid0.Coords) (k0_t2 : Fin (k0_t2_loop i).trips) : Fin 3 → Nat :=
  let c0_268 : Index := 0#32
  let c0_i32_194 : BitVec 32 := 0#32
  let c1_i32_196 : BitVec 32 := 1#32
  let arg11 : BitVec 32 := Scf.iv c0_i32_194 c1_i32_196 k0_t2
  let c1_i32_210 : BitVec 32 := 1#32
  let v447 : BitVec 32 := Scalar.addi arg11 c1_i32_210
  let c7_i32 : BitVec 32 := 7#32
  let v448 : BitVec 32 := Scalar.minsi v447 c7_i32
  let c1024_i32_267 : BitVec 32 := 1024#32
  let v594 : BitVec 32 := Scalar.muli v448 c1024_i32_267
  let v595 : BitVec 32 := v594
  let v596 : Index := Scalar.indexCast v595
  let c128_269 : Index := 128#32
  ![0, v596.toNat, 128]
def k0_off38 (i : grid0.Coords) (k0_t2 : Fin (k0_t2_loop i).trips) : Fin 4 → Nat :=
  let c1_275 : Index := 1#32
  let c0_i32_194 : BitVec 32 := 0#32
  let c1_i32_196 : BitVec 32 := 1#32
  let arg11 : BitVec 32 := Scf.iv c0_i32_194 c1_i32_196 k0_t2
  let v609 : Index := Scalar.indexCast arg11
  let c0_276 : Index := 0#32
  let c0_277 : Index := 0#32
  ![1, v609.toNat, 0, 0]
def k0_off39 (i : grid0.Coords) (k0_t2 : Fin (k0_t2_loop i).trips) (c0_i32_283 : BitVec 32) : Fin 3 → Nat :=
  let c2_284 : Index := 2#32
  let c0_i32_194 : BitVec 32 := 0#32
  let c1_i32_196 : BitVec 32 := 1#32
  let arg11 : BitVec 32 := Scf.iv c0_i32_194 c1_i32_196 k0_t2
  let c4_i32_282 : BitVec 32 := 4#32
  let v618 : BitVec 32 := Scalar.muli arg11 c4_i32_282
  let v619 : BitVec 32 := Scalar.addi v618 c0_i32_283
  let v620 : Index := Scalar.indexCast v619
  let c0_285 : Index := 0#32
  ![2, v620.toNat, 0]
def k0_mult12 (i : grid0.Coords) (k0_t2 : Fin (k0_t2_loop i).trips) : BitVec 32 :=
  let c0_i32_194 : BitVec 32 := 0#32
  let c1_i32_196 : BitVec 32 := 1#32
  let arg11 : BitVec 32 := Scf.iv c0_i32_194 c1_i32_196 k0_t2
  let c1_i32_210 : BitVec 32 := 1#32
  let v447 : BitVec 32 := Scalar.addi arg11 c1_i32_210
  let c7_i32 : BitVec 32 := 7#32
  let v448 : BitVec 32 := Scalar.minsi v447 c7_i32
  let c1024_i32_302 : BitVec 32 := 1024#32
  let v677 : BitVec 32 := Scalar.muli v448 c1024_i32_302
  v677
def k0_off40 (i : grid0.Coords) (k0_t2 : Fin (k0_t2_loop i).trips) : Fin 3 → Nat :=
  let c0_303 : Index := 0#32
  let c0_i32_194 : BitVec 32 := 0#32
  let c1_i32_196 : BitVec 32 := 1#32
  let arg11 : BitVec 32 := Scf.iv c0_i32_194 c1_i32_196 k0_t2
  let c1_i32_210 : BitVec 32 := 1#32
  let v447 : BitVec 32 := Scalar.addi arg11 c1_i32_210
  let c7_i32 : BitVec 32 := 7#32
  let v448 : BitVec 32 := Scalar.minsi v447 c7_i32
  let c1024_i32_302 : BitVec 32 := 1024#32
  let v677 : BitVec 32 := Scalar.muli v448 c1024_i32_302
  let v678 : BitVec 32 := v677
  let v679 : Index := Scalar.indexCast v678
  let c256_304 : Index := 256#32
  ![0, v679.toNat, 256]
def k0_off41 (i : grid0.Coords) (k0_t2 : Fin (k0_t2_loop i).trips) : Fin 4 → Nat :=
  let c2_310 : Index := 2#32
  let c0_i32_194 : BitVec 32 := 0#32
  let c1_i32_196 : BitVec 32 := 1#32
  let arg11 : BitVec 32 := Scf.iv c0_i32_194 c1_i32_196 k0_t2
  let v692 : Index := Scalar.indexCast arg11
  let c0_311 : Index := 0#32
  let c0_312 : Index := 0#32
  ![2, v692.toNat, 0, 0]
def k0_off42 (i : grid0.Coords) (k0_t2 : Fin (k0_t2_loop i).trips) (c0_i32_318 : BitVec 32) : Fin 3 → Nat :=
  let c3_319 : Index := 3#32
  let c0_i32_194 : BitVec 32 := 0#32
  let c1_i32_196 : BitVec 32 := 1#32
  let arg11 : BitVec 32 := Scf.iv c0_i32_194 c1_i32_196 k0_t2
  let c4_i32_317 : BitVec 32 := 4#32
  let v701 : BitVec 32 := Scalar.muli arg11 c4_i32_317
  let v702 : BitVec 32 := Scalar.addi v701 c0_i32_318
  let v703 : Index := Scalar.indexCast v702
  let c0_320 : Index := 0#32
  ![3, v703.toNat, 0]
def k0_mult13 (i : grid0.Coords) (k0_t2 : Fin (k0_t2_loop i).trips) : BitVec 32 :=
  let c0_i32_194 : BitVec 32 := 0#32
  let c1_i32_196 : BitVec 32 := 1#32
  let arg11 : BitVec 32 := Scf.iv c0_i32_194 c1_i32_196 k0_t2
  let c1_i32_210 : BitVec 32 := 1#32
  let v447 : BitVec 32 := Scalar.addi arg11 c1_i32_210
  let c7_i32 : BitVec 32 := 7#32
  let v448 : BitVec 32 := Scalar.minsi v447 c7_i32
  let c1024_i32_337 : BitVec 32 := 1024#32
  let v760 : BitVec 32 := Scalar.muli v448 c1024_i32_337
  v760
def k0_off43 (i : grid0.Coords) (k0_t2 : Fin (k0_t2_loop i).trips) : Fin 3 → Nat :=
  let c0_338 : Index := 0#32
  let c0_i32_194 : BitVec 32 := 0#32
  let c1_i32_196 : BitVec 32 := 1#32
  let arg11 : BitVec 32 := Scf.iv c0_i32_194 c1_i32_196 k0_t2
  let c1_i32_210 : BitVec 32 := 1#32
  let v447 : BitVec 32 := Scalar.addi arg11 c1_i32_210
  let c7_i32 : BitVec 32 := 7#32
  let v448 : BitVec 32 := Scalar.minsi v447 c7_i32
  let c1024_i32_337 : BitVec 32 := 1024#32
  let v760 : BitVec 32 := Scalar.muli v448 c1024_i32_337
  let v761 : BitVec 32 := v760
  let v762 : Index := Scalar.indexCast v761
  let c384_339 : Index := 384#32
  ![0, v762.toNat, 384]
def k0_off44 (i : grid0.Coords) (k0_t2 : Fin (k0_t2_loop i).trips) : Fin 4 → Nat :=
  let c3_345 : Index := 3#32
  let c0_i32_194 : BitVec 32 := 0#32
  let c1_i32_196 : BitVec 32 := 1#32
  let arg11 : BitVec 32 := Scf.iv c0_i32_194 c1_i32_196 k0_t2
  let v775 : Index := Scalar.indexCast arg11
  let c0_346 : Index := 0#32
  let c0_347 : Index := 0#32
  ![3, v775.toNat, 0, 0]
@[reducible] def k0_t3_loop (i : grid0.Coords) : Scf.Loop 32 :=
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let v405 : BitVec 32 := Scalar.addi c0_i32_194 v404
  let c1_i32_197 : BitVec 32 := 1#32
  ⟨v408, v405, c1_i32_197⟩
def k0_off45 (i : grid0.Coords) (k0_t3 : Fin (k0_t3_loop i).trips) (c0_i32_215 : BitVec 32) : Fin 3 → Nat :=
  let c0_216 : Index := 0#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c4_i32_214 : BitVec 32 := 4#32
  let v452 : BitVec 32 := Scalar.muli arg11 c4_i32_214
  let v453 : BitVec 32 := Scalar.addi v452 c0_i32_215
  let v454 : Index := Scalar.indexCast v453
  let c0_217 : Index := 0#32
  ![0, v454.toNat, 0]
def k0_mult14 (i : grid0.Coords) (k0_t3 : Fin (k0_t3_loop i).trips) : BitVec 32 :=
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c1_i32_210 : BitVec 32 := 1#32
  let v447 : BitVec 32 := Scalar.addi arg11 c1_i32_210
  let c7_i32 : BitVec 32 := 7#32
  let v448 : BitVec 32 := Scalar.minsi v447 c7_i32
  let c1024_i32 : BitVec 32 := 1024#32
  let v511 : BitVec 32 := Scalar.muli v448 c1024_i32
  v511
def k0_off46 (i : grid0.Coords) (k0_t3 : Fin (k0_t3_loop i).trips) : Fin 3 → Nat :=
  let c0_233 : Index := 0#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c1_i32_210 : BitVec 32 := 1#32
  let v447 : BitVec 32 := Scalar.addi arg11 c1_i32_210
  let c7_i32 : BitVec 32 := 7#32
  let v448 : BitVec 32 := Scalar.minsi v447 c7_i32
  let c1024_i32 : BitVec 32 := 1024#32
  let v511 : BitVec 32 := Scalar.muli v448 c1024_i32
  let v512 : BitVec 32 := v511
  let v513 : Index := Scalar.indexCast v512
  let c0_234 : Index := 0#32
  ![0, v513.toNat, 0]
def k0_off47 (i : grid0.Coords) (k0_t3 : Fin (k0_t3_loop i).trips) : Fin 4 → Nat :=
  let c0_240 : Index := 0#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let v526 : Index := Scalar.indexCast arg11
  let c0_241 : Index := 0#32
  let c0_242 : Index := 0#32
  ![0, v526.toNat, 0, 0]
def k0_off48 (i : grid0.Coords) (k0_t3 : Fin (k0_t3_loop i).trips) (c0_i32_248 : BitVec 32) : Fin 3 → Nat :=
  let c1_249 : Index := 1#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c4_i32_247 : BitVec 32 := 4#32
  let v535 : BitVec 32 := Scalar.muli arg11 c4_i32_247
  let v536 : BitVec 32 := Scalar.addi v535 c0_i32_248
  let v537 : Index := Scalar.indexCast v536
  let c0_250 : Index := 0#32
  ![1, v537.toNat, 0]
def k0_mult15 (i : grid0.Coords) (k0_t3 : Fin (k0_t3_loop i).trips) : BitVec 32 :=
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c1_i32_210 : BitVec 32 := 1#32
  let v447 : BitVec 32 := Scalar.addi arg11 c1_i32_210
  let c7_i32 : BitVec 32 := 7#32
  let v448 : BitVec 32 := Scalar.minsi v447 c7_i32
  let c1024_i32_267 : BitVec 32 := 1024#32
  let v594 : BitVec 32 := Scalar.muli v448 c1024_i32_267
  v594
def k0_off49 (i : grid0.Coords) (k0_t3 : Fin (k0_t3_loop i).trips) : Fin 3 → Nat :=
  let c0_268 : Index := 0#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c1_i32_210 : BitVec 32 := 1#32
  let v447 : BitVec 32 := Scalar.addi arg11 c1_i32_210
  let c7_i32 : BitVec 32 := 7#32
  let v448 : BitVec 32 := Scalar.minsi v447 c7_i32
  let c1024_i32_267 : BitVec 32 := 1024#32
  let v594 : BitVec 32 := Scalar.muli v448 c1024_i32_267
  let v595 : BitVec 32 := v594
  let v596 : Index := Scalar.indexCast v595
  let c128_269 : Index := 128#32
  ![0, v596.toNat, 128]
def k0_off50 (i : grid0.Coords) (k0_t3 : Fin (k0_t3_loop i).trips) : Fin 4 → Nat :=
  let c1_275 : Index := 1#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let v609 : Index := Scalar.indexCast arg11
  let c0_276 : Index := 0#32
  let c0_277 : Index := 0#32
  ![1, v609.toNat, 0, 0]
def k0_off51 (i : grid0.Coords) (k0_t3 : Fin (k0_t3_loop i).trips) (c0_i32_283 : BitVec 32) : Fin 3 → Nat :=
  let c2_284 : Index := 2#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c4_i32_282 : BitVec 32 := 4#32
  let v618 : BitVec 32 := Scalar.muli arg11 c4_i32_282
  let v619 : BitVec 32 := Scalar.addi v618 c0_i32_283
  let v620 : Index := Scalar.indexCast v619
  let c0_285 : Index := 0#32
  ![2, v620.toNat, 0]
def k0_mult16 (i : grid0.Coords) (k0_t3 : Fin (k0_t3_loop i).trips) : BitVec 32 :=
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c1_i32_210 : BitVec 32 := 1#32
  let v447 : BitVec 32 := Scalar.addi arg11 c1_i32_210
  let c7_i32 : BitVec 32 := 7#32
  let v448 : BitVec 32 := Scalar.minsi v447 c7_i32
  let c1024_i32_302 : BitVec 32 := 1024#32
  let v677 : BitVec 32 := Scalar.muli v448 c1024_i32_302
  v677
def k0_off52 (i : grid0.Coords) (k0_t3 : Fin (k0_t3_loop i).trips) : Fin 3 → Nat :=
  let c0_303 : Index := 0#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c1_i32_210 : BitVec 32 := 1#32
  let v447 : BitVec 32 := Scalar.addi arg11 c1_i32_210
  let c7_i32 : BitVec 32 := 7#32
  let v448 : BitVec 32 := Scalar.minsi v447 c7_i32
  let c1024_i32_302 : BitVec 32 := 1024#32
  let v677 : BitVec 32 := Scalar.muli v448 c1024_i32_302
  let v678 : BitVec 32 := v677
  let v679 : Index := Scalar.indexCast v678
  let c256_304 : Index := 256#32
  ![0, v679.toNat, 256]
def k0_off53 (i : grid0.Coords) (k0_t3 : Fin (k0_t3_loop i).trips) : Fin 4 → Nat :=
  let c2_310 : Index := 2#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let v692 : Index := Scalar.indexCast arg11
  let c0_311 : Index := 0#32
  let c0_312 : Index := 0#32
  ![2, v692.toNat, 0, 0]
def k0_off54 (i : grid0.Coords) (k0_t3 : Fin (k0_t3_loop i).trips) (c0_i32_318 : BitVec 32) : Fin 3 → Nat :=
  let c3_319 : Index := 3#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c4_i32_317 : BitVec 32 := 4#32
  let v701 : BitVec 32 := Scalar.muli arg11 c4_i32_317
  let v702 : BitVec 32 := Scalar.addi v701 c0_i32_318
  let v703 : Index := Scalar.indexCast v702
  let c0_320 : Index := 0#32
  ![3, v703.toNat, 0]
def k0_mult17 (i : grid0.Coords) (k0_t3 : Fin (k0_t3_loop i).trips) : BitVec 32 :=
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c1_i32_210 : BitVec 32 := 1#32
  let v447 : BitVec 32 := Scalar.addi arg11 c1_i32_210
  let c7_i32 : BitVec 32 := 7#32
  let v448 : BitVec 32 := Scalar.minsi v447 c7_i32
  let c1024_i32_337 : BitVec 32 := 1024#32
  let v760 : BitVec 32 := Scalar.muli v448 c1024_i32_337
  v760
def k0_off55 (i : grid0.Coords) (k0_t3 : Fin (k0_t3_loop i).trips) : Fin 3 → Nat :=
  let c0_338 : Index := 0#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let c1_i32_210 : BitVec 32 := 1#32
  let v447 : BitVec 32 := Scalar.addi arg11 c1_i32_210
  let c7_i32 : BitVec 32 := 7#32
  let v448 : BitVec 32 := Scalar.minsi v447 c7_i32
  let c1024_i32_337 : BitVec 32 := 1024#32
  let v760 : BitVec 32 := Scalar.muli v448 c1024_i32_337
  let v761 : BitVec 32 := v760
  let v762 : Index := Scalar.indexCast v761
  let c384_339 : Index := 384#32
  ![0, v762.toNat, 384]
def k0_off56 (i : grid0.Coords) (k0_t3 : Fin (k0_t3_loop i).trips) : Fin 4 → Nat :=
  let c3_345 : Index := 3#32
  let c0_i32_194 : BitVec 32 := 0#32
  let arg2 : BitVec 32 := BitVec.ofNat 32 (i 2).val
  let c4_i32 : BitVec 32 := 4#32
  let v385 : BitVec 32 := Scalar.addi arg2 c4_i32
  let c1_i32_186 : BitVec 32 := 1#32
  let v386 : BitVec 32 := Scalar.subi v385 c1_i32_186
  let c0_i32_188 : BitVec 32 := 0#32
  let v388 : BitVec 1 := Scalar.cmpi .sgt v386 c0_i32_188
  let v389 : BitVec 32 := Scalar.extui v388
  let c0_i32_189 : BitVec 32 := 0#32
  let v390 : BitVec 1 := Scalar.cmpi .slt v386 c0_i32_189
  let v391 : BitVec 32 := Scalar.extui v390
  let v392 : BitVec 32 := Scalar.subi v389 v391
  let c4_i32_187 : BitVec 32 := 4#32
  let c0_i32_190 : BitVec 32 := 0#32
  let v393 : BitVec 1 := Scalar.cmpi .sgt c4_i32_187 c0_i32_190
  let v394 : BitVec 32 := Scalar.extui v393
  let c0_i32_191 : BitVec 32 := 0#32
  let v395 : BitVec 1 := Scalar.cmpi .slt c4_i32_187 c0_i32_191
  let v396 : BitVec 32 := Scalar.extui v395
  let v397 : BitVec 32 := Scalar.subi v394 v396
  let v398 : BitVec 1 := Scalar.cmpi .ne v392 v397
  let v399 : BitVec 32 := Scalar.remsi v386 c4_i32_187
  let c0_i32_192 : BitVec 32 := 0#32
  let v400 : BitVec 1 := Scalar.cmpi .ne v399 c0_i32_192
  let v401 : BitVec 1 := Scalar.andi v398 v400
  let v387 : BitVec 32 := Scalar.divsi v386 c4_i32_187
  let c1_i32_193 : BitVec 32 := 1#32
  let v402 : BitVec 32 := Scalar.subi v387 c1_i32_193
  let v403 : BitVec 32 := Scalar.select v401 v402 v387
  let v404 : BitVec 32 := Scalar.subi v403 c0_i32_194
  let c1_i32_195 : BitVec 32 := 1#32
  let v406 : BitVec 32 := Scalar.divsi v404 c1_i32_195
  let v407 : BitVec 32 := Scalar.muli v406 c1_i32_195
  let v408 : BitVec 32 := Scalar.addi c0_i32_194 v407
  let c1_i32_197 : BitVec 32 := 1#32
  let arg11 : BitVec 32 := Scf.iv v408 c1_i32_197 k0_t3
  let v775 : Index := Scalar.indexCast arg11
  let c0_346 : Index := 0#32
  let c0_347 : Index := 0#32
  ![3, v775.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "exp_scale" => some (((Real.sqrt 128)⁻¹ * (Real.log 2)⁻¹ : ℝ) : EReal)
  | "mask" => some ⊥
  | _ => none
-- ==== ReferenceIdeal.lean ====
abbrev S2x8192x9216 : Shape := ⟨3, ![2, 8192, 9216]⟩
abbrev S2x8192x1024 : Shape := ⟨3, ![2, 8192, 1024]⟩
abbrev S2x8192x8x128 : Shape := ⟨4, ![2, 8192, 8, 128]⟩
abbrev S2x8x8192x128 : Shape := ⟨4, ![2, 8, 8192, 128]⟩
abbrev S32 : Shape := ⟨1, ![32]⟩
abbrev S8192 : Shape := ⟨1, ![8192]⟩
abbrev S32x1 : Shape := ⟨2, ![32, 1]⟩
abbrev S32x256 : Shape := ⟨2, ![32, 256]⟩
abbrev S2x8x32x256x128 : Shape := ⟨5, ![2, 8, 32, 256, 128]⟩
abbrev S_ : Shape := ⟨0, ![]⟩
abbrev S2x8x32x128 : Shape := ⟨4, ![2, 8, 32, 128]⟩
abbrev S1x32 : Shape := ⟨2, ![1, 32]⟩
abbrev S8192x1 : Shape := ⟨2, ![8192, 1]⟩
abbrev S8192x32 : Shape := ⟨2, ![8192, 32]⟩
abbrev S2x8x8192x32 : Shape := ⟨4, ![2, 8, 8192, 32]⟩
abbrev S2x8x8192x32x1 : Shape := ⟨5, ![2, 8, 8192, 32, 1]⟩
abbrev S2x8x8192x1x32 : Shape := ⟨5, ![2, 8, 8192, 1, 32]⟩
abbrev S2x8x8192x32x32 : Shape := ⟨5, ![2, 8, 8192, 32, 32]⟩
abbrev S32x32 : Shape := ⟨2, ![32, 32]⟩
abbrev S1x1x1x32x32 : Shape := ⟨5, ![1, 1, 1, 32, 32]⟩
abbrev S1x1x8192x32 : Shape := ⟨4, ![1, 1, 8192, 32]⟩
abbrev S2x8x8192x32x256 : Shape := ⟨5, ![2, 8, 8192, 32, 256]⟩
abbrev S2x8x8192x8192 : Shape := ⟨4, ![2, 8, 8192, 8192]⟩
abbrev S1x8192 : Shape := ⟨2, ![1, 8192]⟩
abbrev S8192x8192 : Shape := ⟨2, ![8192, 8192]⟩
abbrev S1x1x8192x8192 : Shape := ⟨4, ![1, 1, 8192, 8192]⟩
abbrev S2x8x8192 : Shape := ⟨3, ![2, 8, 8192]⟩
abbrev S2x8x8192x1 : Shape := ⟨4, ![2, 8, 8192, 1]⟩

abbrev nBuf : Space → Nat
  | .hbm => 105
  | .vmem => 0
  | .smem => 0
  | _ => 0

abbrev bufTy : (tb : Table) → Fin (tcTables nBuf tb) → BufTy
  | .hbm, ⟨0, _⟩ => ⟨S2x8192x9216, .bf16⟩
  | .hbm, ⟨1, _⟩ => ⟨S2x8192x1024, .bf16⟩
  | .hbm, ⟨2, _⟩ => ⟨S2x8192x1024, .f32⟩
  | .hbm, ⟨3, _⟩ => ⟨S2x8192x8x128, .f32⟩
  | .hbm, ⟨4, _⟩ => ⟨S2x8x8192x128, .f32⟩
  | .hbm, ⟨5, _⟩ => ⟨S2x8192x1024, .bf16⟩
  | .hbm, ⟨6, _⟩ => ⟨S2x8192x1024, .f32⟩
  | .hbm, ⟨7, _⟩ => ⟨S2x8192x8x128, .f32⟩
  | .hbm, ⟨8, _⟩ => ⟨S2x8x8192x128, .f32⟩
  | .hbm, ⟨9, _⟩ => ⟨S2x8192x1024, .bf16⟩
  | .hbm, ⟨10, _⟩ => ⟨S2x8192x1024, .f32⟩
  | .hbm, ⟨11, _⟩ => ⟨S2x8192x8x128, .f32⟩
  | .hbm, ⟨12, _⟩ => ⟨S2x8x8192x128, .f32⟩
  | .hbm, ⟨13, _⟩ => ⟨S32, .i32⟩
  | .hbm, ⟨14, _⟩ => ⟨S8192, .i32⟩
  | .hbm, ⟨15, _⟩ => ⟨S32x1, .i32⟩
  | .hbm, ⟨16, _⟩ => ⟨S32x256, .i32⟩
  | .hbm, ⟨17, _⟩ => ⟨S8192, .i32⟩
  | .hbm, ⟨18, _⟩ => ⟨S2x8x32x256x128, .f32⟩
  | .hbm, ⟨19, _⟩ => ⟨S_, .f32⟩
  | .hbm, ⟨20, _⟩ => ⟨S2x8x32x128, .f32⟩
  | .hbm, ⟨21, _⟩ => ⟨S_, .f32⟩
  | .hbm, ⟨22, _⟩ => ⟨S2x8x32x128, .f32⟩
  | .hbm, ⟨23, _⟩ => ⟨S2x8x32x128, .f32⟩
  | .hbm, ⟨24, _⟩ => ⟨S1x32, .i32⟩
  | .hbm, ⟨25, _⟩ => ⟨S8192x1, .i32⟩
  | .hbm, ⟨26, _⟩ => ⟨S8192x32, .i32⟩
  | .hbm, ⟨27, _⟩ => ⟨S8192x32, .i32⟩
  | .hbm, ⟨28, _⟩ => ⟨S8192x32, .i1⟩
  | .hbm, ⟨29, _⟩ => ⟨S2x8x8192x32, .f32⟩
  | .hbm, ⟨30, _⟩ => ⟨S_, .f32⟩
  | .hbm, ⟨31, _⟩ => ⟨S_, .f32⟩
  | .hbm, ⟨32, _⟩ => ⟨S2x8x8192x32, .i1⟩
  | .hbm, ⟨33, _⟩ => ⟨S2x8x8192x32, .f32⟩
  | .hbm, ⟨34, _⟩ => ⟨S2x8x8192x32, .f32⟩
  | .hbm, ⟨35, _⟩ => ⟨S2x8x8192x32x1, .f32⟩
  | .hbm, ⟨36, _⟩ => ⟨S2x8x8192x1x32, .f32⟩
  | .hbm, ⟨37, _⟩ => ⟨S2x8x8192x32x32, .f32⟩
  | .hbm, ⟨38, _⟩ => ⟨S2x8x8192x32x32, .f32⟩
  | .hbm, ⟨39, _⟩ => ⟨S2x8x8192x32x32, .i1⟩
  | .hbm, ⟨40, _⟩ => ⟨S2x8x8192x32x32, .f32⟩
  | .hbm, ⟨41, _⟩ => ⟨S2x8x8192x32x32, .f32⟩
  | .hbm, ⟨42, _⟩ => ⟨S2x8x8192x32x32, .i1⟩
  | .hbm, ⟨43, _⟩ => ⟨S1x32, .i32⟩
  | .hbm, ⟨44, _⟩ => ⟨S32x1, .i32⟩
  | .hbm, ⟨45, _⟩ => ⟨S32x32, .i32⟩
  | .hbm, ⟨46, _⟩ => ⟨S32x32, .i32⟩
  | .hbm, ⟨47, _⟩ => ⟨S32x32, .i1⟩
  | .hbm, ⟨48, _⟩ => ⟨S1x1x1x32x32, .i1⟩
  | .hbm, ⟨49, _⟩ => ⟨S2x8x8192x32x32, .i1⟩
  | .hbm, ⟨50, _⟩ => ⟨S2x8x8192x32x32, .i1⟩
  | .hbm, ⟨51, _⟩ => ⟨S2x8x8192x32x32, .i1⟩
  | .hbm, ⟨52, _⟩ => ⟨S2x8x8192x32x32, .f32⟩
  | .hbm, ⟨53, _⟩ => ⟨S_, .f32⟩
  | .hbm, ⟨54, _⟩ => ⟨S2x8x8192x32, .f32⟩
  | .hbm, ⟨55, _⟩ => ⟨S_, .f32⟩
  | .hbm, ⟨56, _⟩ => ⟨S2x8x8192x32, .f32⟩
  | .hbm, ⟨57, _⟩ => ⟨S2x8x8192x32, .i1⟩
  | .hbm, ⟨58, _⟩ => ⟨S1x1x8192x32, .i1⟩
  | .hbm, ⟨59, _⟩ => ⟨S2x8x8192x32, .i1⟩
  | .hbm, ⟨60, _⟩ => ⟨S2x8x8192x32, .i1⟩
  | .hbm, ⟨61, _⟩ => ⟨S2x8x8192x32x1, .i1⟩
  | .hbm, ⟨62, _⟩ => ⟨S2x8x8192x32x256, .i1⟩
  | .hbm, ⟨63, _⟩ => ⟨S2x8x8192x8192, .i1⟩
  | .hbm, ⟨64, _⟩ => ⟨S1x8192, .i32⟩
  | .hbm, ⟨65, _⟩ => ⟨S8192x1, .i32⟩
  | .hbm, ⟨66, _⟩ => ⟨S8192x8192, .i32⟩
  | .hbm, ⟨67, _⟩ => ⟨S8192x8192, .i32⟩
  | .hbm, ⟨68, _⟩ => ⟨S8192x8192, .i1⟩
  | .hbm, ⟨69, _⟩ => ⟨S1x8192, .i32⟩
  | .hbm, ⟨70, _⟩ => ⟨S8192x1, .i32⟩
  | .hbm, ⟨71, _⟩ => ⟨S8192x8192, .i32⟩
  | .hbm, ⟨72, _⟩ => ⟨S8192x8192, .i32⟩
  | .hbm, ⟨73, _⟩ => ⟨S8192x8192, .i1⟩
  | .hbm, ⟨74, _⟩ => ⟨S8192x8192, .i1⟩
  | .hbm, ⟨75, _⟩ => ⟨S1x1x8192x8192, .i1⟩
  | .hbm, ⟨76, _⟩ => ⟨S2x8x8192x8192, .i1⟩
  | .hbm, ⟨77, _⟩ => ⟨S2x8x8192x8192, .i1⟩
  | .hbm, ⟨78, _⟩ => ⟨S2x8x8192x8192, .f32⟩
  | .hbm, ⟨79, _⟩ => ⟨S_, .f32⟩
  | .hbm, ⟨80, _⟩ => ⟨S_, .f32⟩
  | .hbm, ⟨81, _⟩ => ⟨S2x8x8192x8192, .f32⟩
  | .hbm, ⟨82, _⟩ => ⟨S2x8x8192x8192, .f32⟩
  | .hbm, ⟨83, _⟩ => ⟨S_, .f32⟩
  | .hbm, ⟨84, _⟩ => ⟨S_, .f32⟩
  | .hbm, ⟨85, _⟩ => ⟨S2x8x8192x8192, .f32⟩
  | .hbm, ⟨86, _⟩ => ⟨S2x8x8192x8192, .f32⟩
  | .hbm, ⟨87, _⟩ => ⟨S_, .f32⟩
  | .hbm, ⟨88, _⟩ => ⟨S2x8x8192, .f32⟩
  | .hbm, ⟨89, _⟩ => ⟨S_, .f32⟩
  | .hbm, ⟨90, _⟩ => ⟨S2x8x8192, .f32⟩
  | .hbm, ⟨91, _⟩ => ⟨S2x8x8192, .f32⟩
  | .hbm, ⟨92, _⟩ => ⟨S2x8x8192x1, .f32⟩
  | .hbm, ⟨93, _⟩ => ⟨S2x8x8192x8192, .f32⟩
  | .hbm, ⟨94, _⟩ => ⟨S2x8x8192x8192, .f32⟩
  | .hbm, ⟨95, _⟩ => ⟨S2x8x8192x8192, .f32⟩
  | .hbm, ⟨96, _⟩ => ⟨S_, .f32⟩
  | .hbm, ⟨97, _⟩ => ⟨S2x8x8192, .f32⟩
  | .hbm, ⟨98, _⟩ => ⟨S2x8x8192x1, .f32⟩
  | .hbm, ⟨99, _⟩ => ⟨S2x8x8192x8192, .f32⟩
  | .hbm, ⟨100, _⟩ => ⟨S2x8x8192x8192, .f32⟩
  | .hbm, ⟨101, _⟩ => ⟨S2x8x8192x128, .f32⟩
  | .hbm, ⟨102, _⟩ => ⟨S2x8192x8x128, .f32⟩
  | .hbm, ⟨103, _⟩ => ⟨S2x8192x1024, .f32⟩
  | .hbm, ⟨104, _⟩ => ⟨S2x8192x1024, .bf16⟩
  | _, _ => ⟨S2x8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_cst : Ref sig .tc := ⟨.hbm, 19, rfl⟩
abbrev main_v18 : Ref sig .tc := ⟨.hbm, 20, rfl⟩
abbrev main_cst_0 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_4 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_5 : Ref sig .tc := ⟨.hbm, 83, rfl⟩
abbrev main_call1_v0 : Ref sig .tc := ⟨.hbm, 84, rfl⟩
abbrev main_call1_v1 : Ref sig .tc := ⟨.hbm, 85, rfl⟩
abbrev main_v73 : Ref sig .tc := ⟨.hbm, 86, rfl⟩
abbrev main_cst_6 : Ref sig .tc := ⟨.hbm, 87, rfl⟩
abbrev main_v74 : Ref sig .tc := ⟨.hbm, 88, rfl⟩
abbrev main_cst_7 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x9216 : Shape := ⟨2, ![2048, 9216]⟩
abbrev S16384x9216 : Shape := ⟨2, ![16384, 9216]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x9216, .bf16⟩
  | .hbm, ⟨3, _⟩ => ⟨S16384x9216, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg1 c5_i32
  let c9_i32 : BitVec 32 := 9#32
  let c0_i32 : BitVec 32 := 0#32
  let v1 : BitVec 1 := Scalar.cmpi .eq c9_i32 c0_i32
  let c1_i32 : BitVec 32 := 1#32
  let v2 : BitVec 32 := Scalar.select v1 c1_i32 c9_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S1x2048 : Shape := ⟨2, ![1, 2048]⟩
abbrev S2048x9216 : Shape := ⟨2, ![2048, 9216]⟩
abbrev S_ : Shape := ⟨0, ![]⟩
abbrev S16384 : Shape := ⟨1, ![16384]⟩
abbrev S16384x1 : Shape := ⟨2, ![16384, 1]⟩
abbrev S16384x9216 : Shape := ⟨2, ![16384, 9216]⟩
abbrev S16384x1024 : Shape := ⟨2, ![16384, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x9216, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | .hbm, ⟨19, _⟩ => ⟨S16384x2048, .f32⟩
  | .hbm, ⟨20, _⟩ => ⟨S2048x9216, .f32⟩
  | .hbm, ⟨21, _⟩ => ⟨S16384x9216, .f32⟩
  | .hbm, ⟨22, _⟩ => ⟨S16384x9216, .bf16⟩
  | .hbm, ⟨23, _⟩ => ⟨S16384x1024, .bf16⟩
  | .hbm, ⟨24, _⟩ => ⟨S16384x1024, .bf16⟩
  | .hbm, ⟨25, _⟩ => ⟨S16384x1024, .bf16⟩
  | .hbm, ⟨26, _⟩ => ⟨S16384x1024, .bf16⟩
  | .hbm, ⟨27, _⟩ => ⟨S16384x1024, .bf16⟩
  | .hbm, ⟨28, _⟩ => ⟨S16384x2048, .bf16⟩
  | .hbm, ⟨29, _⟩ => ⟨S16384x2048, .bf16⟩
  | .hbm, ⟨30, _⟩ => ⟨S16384x9216, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.InprojValue.lean ====
/-
  What the projection kernel leaves in its result, element by element: the normalised row times the weight column, the weight's columns
  read 5120 further round.
-/
module

public import proofs.«01_k».proof.Proof.Gen.Kernel2Ideal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel2Ideal.Inproj

open Cert.Kernel2Ideal Cert.Kernel2Ideal.Gen Cert.Kernel2Ideal.Value

/-- The two zero offsets are zero. -/
theorem hz : (![0, 0] : Fin 2 → Nat) = fun _ => 0 := funext fun a => by fin_cases a <;> rfl

section Runs

variable {F : FTy → Type} [FloatOps F]
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x2048 .bf16) (h6 : a6.IsWhole)
  (x : Vec F S1024x2048 .f32) (g : Vec F S1x2048 .f32) (w : Vec F S2048x1024 .bf16) (h : Vec F S1024x2048 .bf16)

/-- At the first column block of a row block the output is the product of the rows just normalised with the weight block. -/
theorem out_A (hc : cond0_0 i) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero hz]
  simp only [View.readCov_unit_zero (S := S1024x2048) _ hz, View.readAt_eq_ld, h2.read_unread, h3.read_unread, h4.read_unread,
    View.ld_unit_zero (S := S1024x2048) hz, View.ld_unit_zero (S := S1x2048) hz, View.ld_unit_zero (S := S2048x1024) hz]

/-- At the first column block the scratch holds the normalised rows. -/
theorem sout_A (hc : cond0_0 i) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero hz]
  simp only [View.readAt_eq_ld, h2.read_unread, h3.read_unread,
    View.ld_unit_zero (S := S1024x2048) hz, View.ld_unit_zero (S := S1x2048) hz]

/-- At the other column blocks the output is the product of what the scratch holds with the weight block. -/
theorem out_B (hc : ¬cond0_0 i) :
    out0_B_3 c i a2 h2 a3 h3 a4 h4 a5 h5 a6 h6 hc x g w h = k0_pay2 h w := by
  unfold out0_B_3
  rw [View.read_writes_eq_canon _ _ _ (cover0_B_3 c i a2 h2 a3 h3 a4 h4 a5 h5 a6 h6 hc x g w h)]
  unfold kernelRun0_B
  dsimp only
  try sl_unfold_words
  rw [View.canon_unit_zero hz]
  simp only [View.readAt_eq_ld, h4.read_unread, h6.read_unread,
    View.ld_unit_zero (S := S1024x2048) hz, View.ld_unit_zero (S := S2048x1024) hz]

end Runs

section Blocks

variable {F : FTy → Type} [FloatOps F]
variable (m : (ℓ : Loc nD τ sig) → Buf (Elt F) ℓ)

/-- The three input windows' block indices at each point of the grid. -/
theorem idx_in : ∀ t : Fin cfg0.N, win0_0.index t (0 : Fin 2) = t.val / 9 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = (t.val % 9 + 5) % 9 :=
  (by decide +kernel : ∀ t : Fin grid0.N, _)

/-- The number of points. -/
theorem lt_N (t : Fin cfg0.N) : t.val < 144 := lt_of_lt_of_eq t.isLt N_0

/-- Row `r` of row block `q`. -/
abbrev rowOf (q : Nat) (hq : q < 16) (r : Fin 1024) : Fin 16384 := ⟨1024 * q + r.val, by omega⟩
/-- Column `j` of column block `q`. -/
abbrev colOf (q : Nat) (hq : q < 9) (j : Fin 1024) : Fin 9216 := ⟨1024 * q + j.val, by omega⟩

/-- Row block `q` of `x`. -/
def xBlk (X : Vec F S16384x2048 .f32) (q : Nat) (hq : q < 16) : Vec F S1024x2048 .f32 := fun y => X (ix2 (rowOf q hq (y 0)) (y 1))
/-- The row block depends on its number alone. -/
theorem xBlk_congr (X : Vec F S16384x2048 .f32) {q q' : Nat} {hq : q < 16} {hq' : q' < 16} (e : q = q') : xBlk X q hq = xBlk X q' hq' := by
  subst e; rfl
/-- Column block `q` of `w`. -/
def wBlk (W : Vec F S2048x9216 .bf16) (q : Nat) (hq : q < 9) : Vec F S2048x1024 .bf16 := fun y => W (ix2 (y 0) (colOf q hq (y 1)))

/-- The first window shows row block `t / 9` of `x`. -/
theorem iblk_x (c : Dev nD) (t : Fin cfg0.N) :
    (iblk m c 0 t : Vec F S1024x2048 .f32) = xBlk (m ((c : Thread nD τ).loc main_arg0)) (t.val / 9) (by have := lt_N t; omega) := by
  obtain ⟨e0, e1, -⟩ := idx_in t
  funext j
  unfold iblk xBlk
  rw [View.read_apply]
  show V m c main_arg0 _ = m (c.tc.loc main_arg0) _
  rw [V_main_arg0]
  congr 1
  funext a
  apply Fin.ext
  match a with
  | ⟨0, _⟩ => show win0_0.index t (0 : Fin 2) * 1024 + 1 * (j 0).val = 1024 * (t.val / 9) + (j 0).val; rw [e0]; omega
  | ⟨1, _⟩ => show win0_0.index t (1 : Fin 2) * 2048 + 1 * (j 1).val = (j 1).val; rw [e1]; omega

/-- The second window shows the gain. -/
theorem iblk_g (c : Dev nD) (t : Fin cfg0.N) :
    (iblk m c 1 t : Vec F S1x2048 .f32) = m ((c : Thread nD τ).loc main_arg1) := by
  obtain ⟨-, -, e0, e1, -⟩ := idx_in t
  funext j
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 1 + 1 * (j 0).val = (j 0).val; rw [e0]; omega
  | ⟨1, _⟩ => show win0_1.index t (1 : Fin 2) * 2048 + 1 * (j 1).val = (j 1).val; rw [e1]; omega

/-- The third window shows the weight's column block five further round. -/
theorem iblk_w (c : Dev nD) (t : Fin cfg0.N) :
    (iblk m c 2 t : Vec F S2048x1024 .bf16) = wBlk (m ((c : Thread nD τ).loc main_arg2)) ((t.val % 9 + 5) % 9) (by omega) := by
  obtain ⟨-, -, -, -, e0, e1⟩ := idx_in t
  funext j
  unfold iblk wBlk
  rw [View.read_apply]
  show V m c main_arg2 _ = m (c.tc.loc main_arg2) _
  rw [V_main_arg2]
  congr 1
  funext a
  apply Fin.ext
  match a with
  | ⟨0, _⟩ => show win0_2.index t (0 : Fin 2) * 2048 + 1 * (j 0).val = (j 0).val; rw [e0]; omega
  | ⟨1, _⟩ => show win0_2.index t (1 : Fin 2) * 1024 + 1 * (j 1).val = 1024 * ((t.val % 9 + 5) % 9) + (j 1).val; rw [e1]; omega

/-- After point `n` the scratch holds the normalised rows of row block `n / 9`. -/
theorem scratch_eq (c : Dev nD) : ∀ (n : ℕ) (hn : n < cfg0.N), (outsAt0 m c n hn).2
      = k0_pay1 (xBlk (m ((c : Thread nD τ).loc main_arg0)) (n / 9) (by have := lt_N ⟨n, hn⟩; dsimp only at this; omega)) (m ((c : Thread nD τ).loc main_arg1)) := by
  intro n
  induction n with
  | zero =>
    intro hn
    have e := congrArg Prod.snd (outsAt0_A m c ⟨0, hn⟩ (Nat.zero_mod _))
    refine e.trans ?_
    dsimp only
    rw [sout_A, iblk_x, iblk_g]
  | succ n ih =>
    intro hn
    by_cases h : (n + 1) % 9 = 0
    · have e := congrArg Prod.snd (outsAt0_A m c ⟨n + 1, hn⟩ h)
      refine e.trans ?_
      dsimp only
      rw [sout_A, iblk_x, iblk_g]
    · have e := congrArg Prod.snd (outsAt0_B m c ⟨n + 1, hn⟩ h)
      refine e.trans ((ih (Nat.lt_of_succ_lt hn)).trans ?_)
      congr 2
      omega

/-- After point `t` the output block is the product of the normalised rows of row block `t / 9` with the weight's column block. -/
theorem out_eq (c : Dev nD) (t : Fin cfg0.N) : (outsAt0 m c t.val t.isLt).1
      = k0_pay2 (k0_pay1 (xBlk (m ((c : Thread nD τ).loc main_arg0)) (t.val / 9) (by have := lt_N t; omega)) (m ((c : Thread nD τ).loc main_arg1)))
          (wBlk (m ((c : Thread nD τ).loc main_arg2)) ((t.val % 9 + 5) % 9) (by omega)) := by
  by_cases h : t.val % 9 = 0
  · rw [outsAt0_A m c t h]
    dsimp only
    rw [out_A, iblk_x, iblk_g, iblk_w]
  · rw [outsAt0_B m c t h]
    dsimp only
    rw [out_B, iblk_w, scratch_eq]
    rw [xBlk_congr _ (show (t.val - 1) / 9 = t.val / 9 by omega)]

end Blocks

/-! ## At the ideal instance -/

variable (m : (ℓ : Loc nD τ sig) → Buf (Elt Ideal) ℓ)

/-- The normalised row times a weight column. -/
def prodAt (X : FVec Ideal S16384x2048 .f32) (G : FVec Ideal S1x2048 .f32) (W : FVec Ideal S2048x9216 .bf16) (r : Fin 16384) (j : Fin 9216) : EReal :=
  ∑ k : Fin 2048, (X (ix2 r k) * Ideal.rsqrt (Ideal.div (∑ d : Fin 2048, X (ix2 r d) * X (ix2 r d)) (Ideal.ofBits .f32 0x45000000#32)
      + Ideal.ofBits .f32 0x358637BD#32) * G (ix2 0 k)) * W (ix2 k j)

/-- The block product read at an element. -/
theorem blk_apply (X : FVec Ideal S16384x2048 .f32) (G : FVec Ideal S1x2048 .f32) (W : FVec Ideal S2048x9216 .bf16) (p q : Nat) (hp : p < 16) (hq : q < 9)
    (r : Fin 1024) (j : Fin 1024) :
    k0_pay2 (k0_pay1 (xBlk (F := Ideal) X p hp) G) (wBlk (F := Ideal) W q hq) (ix2 r j) = prodAt X G W (rowOf p hp r) (colOf q hq j) := by
  unfold prodAt
  pointwise [k0_pay2, k0_pay1, xBlk, wBlk]

/-- The column of the weight that column `j` of the result reads: 5120 further round. -/
abbrev turn (j : Fin 9216) : Fin 9216 := ⟨(j.val + 5120) % 9216, Nat.mod_lt _ (by decide)⟩

/-- The result of the projection: row `i 0` normalised, times the weight's column 5120 further round. -/
def result (c : Dev nD) : Buf (Elt Ideal) ((c : Thread nD τ).loc main_v0) := fun i =>
  prodAt (m ((c : Thread nD τ).loc main_arg0)) (m ((c : Thread nD τ).loc main_arg1)) (m ((c : Thread nD τ).loc main_arg2)) (i 0) (turn (i 1))

/-- What the output block holds after point `t`, at an element. -/
theorem out_apply (c : Dev nD) (t : Fin cfg0.N) (y : S1024x1024.Idx) : (outsAt0 m c t.val t.isLt).1 y
    = prodAt (m ((c : Thread nD τ).loc main_arg0)) (m ((c : Thread nD τ).loc main_arg1)) (m ((c : Thread nD τ).loc main_arg2))
      (rowOf (t.val / 9) (by have := lt_N t; omega) (y 0)) (colOf ((t.val % 9 + 5) % 9) (by omega) (y 1)) := by
  rw [out_eq]
  idx_vars y
  exact blk_apply _ _ _ _ _ _ _ _ _

/-- What each point writes back is its block of the result. -/
theorem flushed_eq (c : Dev nD) (t : Fin cfg0.N) :
    (dats m 0 c).flushed 3 t = ((cfg0.win 3).blk t).view.read (Elt Ideal) (result m c) := by
  rw [flushed3]
  obtain ⟨e0, e1, e2, e3, e4⟩ := idx_facts3 t
  have ht := lt_N t
  funext y
  have hy0 : (y 0).val < 1024 := (y 0).isLt
  have hy1 : (y 1).val < 1024 := (y 1).isLt
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  show (outsAt0 m c t.val t.isLt).1 ((cfg0.win 3).xinj (grid0.coords t) y) = result m c (((cfg0.win 3).blk t).view.emb y)
  rw [out_apply]
  unfold result
  congr 1
  · apply Fin.ext
    show 1024 * (t.val / 9) + (y 0).val = (((cfg0.win 3).blk t).view.emb y 0).val
    omega
  · apply Fin.ext
    show 1024 * ((t.val % 9 + 5) % 9) + (y 1).val = ((((cfg0.win 3).blk t).view.emb y 1).val + 5120) % 9216
    omega

/-- So the array ends holding the result. -/
theorem final_eq (c : Dev nD) : (dats m 0 c).arrAt 3 cfg0.N = result m c :=
  (dats m 0 c).arrAt_eq_of_cover 3 _ (fun t _ => flushed_eq m c t) (fun i => (covered_iff3 i).2 (by
    have h0 : (i 0).val < 16384 := (i 0).isLt; have h1 : (i 1).val < 9216 := (i 1).isLt; omega))

end Cert.Kernel2Ideal.Inproj

end
-- ==== Proof.InprojRef.lean ====
/-
  The projection's reference, read element by element: the same sum.
-/
module

public import proofs.«01_k».proof.Proof.Gen.Reference2Ideal.Run
public import proofs.«01_k».proof.Proof.InprojValue

@[expose] public section

set_option maxRecDepth 16384

noncomputable section

open Idealize.ShloMosaic Idealize.ShloMosaic.TcCoe Idealize.SL.Sem

namespace Cert.Reference2Ideal.Inproj

open Cert.Reference2Ideal Cert.Reference2Ideal.Gen Cert.Reference2Ideal.Value

variable (m : (ℓ : Loc nD τ sig) → Buf (Elt Ideal) ℓ)

/-- A row times a weight column depends on the column's number alone. -/
theorem sum_col (f : Fin 2048 → EReal) (W : FVec Ideal S2048x9216 .bf16) {z z' : Fin 9216} (h : z.val = z'.val) :
    ∑ k : Fin 2048, f k * W (ix2 k z) = ∑ k : Fin 2048, f k * W (ix2 k z') := by
  rw [Fin.ext h]

/-- The reference's result at an element: the normalised row times the weight's column 5120 further round. -/
theorem res_apply (c : Dev nD) (r : Fin 16384) (j : Fin 9216) :
    res_out0 m c (ix2 r j) = Cert.Kernel2Ideal.Inproj.prodAt (m ((c.tc : Thread nD τ).loc main_arg0)) (m ((c.tc : Thread nD τ).loc main_arg1))
      (m ((c.tc : Thread nD τ).loc main_arg2)) r (Cert.Kernel2Ideal.Inproj.turn j) := by
  unfold res_out0 res_main_v24 Cert.Kernel2Ideal.Inproj.prodAt
  generalize m ((c.tc : Thread nD τ).loc main_arg0) = X
  generalize m ((c.tc : Thread nD τ).loc main_arg1) = G
  generalize m ((c.tc : Thread nD τ).loc main_arg2) = W
  pointwise
  have hj := j.isLt
  repeat' split
  all_goals
    refine sum_col _ W ?_
    show _ = (j.val + 5120) % 9216
    dsimp only
    omega

end Cert.Reference2Ideal.Inproj

end
-- ==== Proof.InprojClaims.lean ====
/-
  The claims about the projection call: its frames and its value claim.
-/
module

public import proofs.«01_k».proof.Defs
public import proofs.«01_k».proof.Proof.Gen.Kernel2.Frame
public import proofs.«01_k».proof.Proof.InprojRef

@[expose] public section

noncomputable section

open Idealize.ShloMosaic Idealize.ShloMosaic.TcCoe Idealize.SL.Sem

namespace Cert.Proof.InprojClaims

/-- The projection as written runs, leaves its arguments and ends quiet. -/
theorem frame_k : Cert.quiescent_Kernel2 (hKernel2 := Cert.Kernel2.Gen.facts) := fun m ρ _ => Cert.Kernel2.Gen.frame m ρ

/-- So does its idealization. -/
theorem frame_ki : Cert.quiescent_Kernel2Ideal (hKernel2Ideal := Cert.Kernel2Ideal.Gen.facts) := fun m ρ _ => Cert.Kernel2Ideal.Gen.frame m ρ

/-- So does the reference, which has no semaphore. -/
theorem frame_ri : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- From equal arguments both end with the same result: the kernel's array and the reference's agree element by element. -/
theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨fun c => Cert.Kernel2Ideal.Inproj.result m c, ?_, ?_⟩
  · exact (θ_run Cert.Kernel2Ideal.defs _ _).mono (fun _ h c => ⟨(h c).1.trans (Cert.Kernel2Ideal.Inproj.final_eq m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    funext i
    obtain ⟨r, j, rfl⟩ : ∃ (r : Fin 16384) (j : Fin 9216), i = ix2 r j := ⟨i 0, i 1, eq_ix2 i⟩
    refine (Cert.Reference2Ideal.Inproj.res_apply m' c r j).trans ?_
    obtain ⟨e0, e1, e2⟩ := hagree c
    rw [e0, e1, e2]
    rfl

end Cert.Proof.InprojClaims

end
-- ==== Proof.MobaKernelA.lean ====
/-
  The run of the attention call as written at the first point of a sequence, where the scratch is filled.
-/
module

public import proofs.«01_k».proof.Proof.Gen.Kernel.Frame.Runs

@[expose] public section

set_option maxRecDepth 16384

noncomputable section

namespace Cert.Kernel.Moba

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run that ends with the arrays as stated leaves the argument as it was. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (Pipeline.RDat.FramePost.arr_in h c 2 rfl).trans ((hA c 2).trans (V_main_arg0 m c))) h

set_option maxHeartbeats 1000000 in
/-- The run of the body at the first point of a sequence, where the scratch is filled: from buffers that hold their blocks it ends with the inputs as they were, the output at anything, and leaves its pieces in the two carried scratches. -/
noncomputable def kernelRun0_A (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) :
    Σ' (LS0 : List (View.Piece (Elt F) S4x32x128 .f32)), { LS1 : List (View.Piece (Elt F) S4x8x144x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ d, owns (c : Thread nD τ) arg9 fullShare d) ∗ (∃ d, owns (c : Thread nD τ) arg10 fullShare d)) -∗ K ⟨⟩))
          ⊢ wp frame (wpE (defs₀ (F := F)) Variants.none c none) E (cc0_moba i arg3 harg3 arg4 harg4 arg5 harg5 arg6 harg6 arg7 harg7 arg8 harg8 arg9 harg9 arg10 harg10) K } := by
  refine ⟨?_, ?_, fun E K => ?run⟩
  case run =>
    simp only [cc0_moba_eq_skeleton]; unfold cc0_moba_skel
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

end Cert.Kernel.Moba

end
-- ==== Proof.MobaKernelB.lean ====
/-
  The run of the attention call as written at the later points of a sequence.
-/
module

public import proofs.«01_k».proof.Proof.MobaKernelA

@[expose] public section

set_option maxRecDepth 16384

noncomputable section

namespace Cert.Kernel.Moba

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of the body at a later point, where the carried scratch is what the point before left: from buffers that hold their blocks it ends with the inputs as they were, the output at anything, and leaves that scratch. -/
noncomputable def kernelRun0_B (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : ¬cond0_0 i)
    (x0 : Vec F S1x256x512 .bf16) (x1 : Vec F S1x8192x512 .bf16) (x2 : Vec F S1x8192x512 .bf16) (xs0 : Vec F S4x32x128 .f32) (xs1 : Vec F S4x8x144x1024 .bf16) :
    Σ' (LS0 : List (View.Piece (Elt F) S4x32x128 .f32)), { LS1 : List (View.Piece (Elt F) S4x8x144x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ (∃ d, owns (c : Thread nD τ) arg9 fullShare d) ∗ (∃ d, owns (c : Thread nD τ) arg10 fullShare d)) -∗ K ⟨⟩))
          ⊢ wp frame (wpE (defs₀ (F := F)) Variants.none c none) E (cc0_moba i arg3 harg3 arg4 harg4 arg5 harg5 arg6 harg6 arg7 harg7 arg8 harg8 arg9 harg9 arg10 harg10) K } := by
  refine ⟨[], [], fun E K => ?run⟩
  case run =>
    simp only [cc0_moba_eq_skeleton]; unfold cc0_moba_skel
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [HS0]
    · iexists _; isplitr; · ipureintro; exact harg7.read_unread _
      iexact HS0
    isplitl [HS1]
    · iexists _; isplitr; · ipureintro; exact harg8.read_unread _
      iexact HS1
    isplitl [HS2]
    · iexists _, _; isplitr; swap; · iexact HS2
      ipureintro; rfl
    iexists _, _; isplitr; swap; · iexact HS3
    ipureintro; rfl

end Cert.Kernel.Moba

end
-- ==== Proof.MobaKernelFrame.lean ====
/-
  The frame of the attention call as written: it runs to the end and leaves its argument.
-/
module

public import proofs.«01_k».proof.Proof.MobaKernelB
public import Idealize.ShloMosaic.Lib.Claim

@[expose] public section

set_option maxRecDepth 16384

noncomputable section

namespace Cert.Kernel.Moba

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces that the first point stores cover the scratch of the mean keys. -/
theorem scover0_A_0 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) (y : S4x32x128.Idx) :
    ∃ pc ∈ (kernelRun0_A c i arg3 harg3 arg4 harg4 arg5 harg5 arg6 harg6 arg7 harg7 arg8 harg8 arg9 harg9 arg10 harg10 hc0 x0 x1 x2).1, y ∈ pc.1.set :=
  View.cover_of_wholeMem (kernelRun0_A c i arg3 harg3 arg4 harg4 arg5 harg5 arg6 harg6 arg7 harg7 arg8 harg8 arg9 harg9 arg10 harg10 hc0 x0 x1 x2).1 (by sl_whole_mem) y

/-- What the first point leaves in the scratch of the mean keys. -/
def sout0_A_0 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) : Vec F S4x32x128 .f32 :=
  VS0_0.read (Elt F) (VS0_0.writes (Elt F) VS0_0.junk (kernelRun0_A c i arg3 harg3 arg4 harg4 arg5 harg5 arg6 harg6 arg7 harg7 arg8 harg8 arg9 harg9 arg10 harg10 hc0 x0 x1 x2).1)

/-- The pieces that the first point stores cover the scratch of the transposed values. -/
theorem scover0_A_1 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) (y : S4x8x144x1024.Idx) :
    ∃ pc ∈ (kernelRun0_A c i arg3 harg3 arg4 harg4 arg5 harg5 arg6 harg6 arg7 harg7 arg8 harg8 arg9 harg9 arg10 harg10 hc0 x0 x1 x2).2.1, y ∈ pc.1.set :=
  View.cover_of_tiledBy (kernelRun0_A c i arg3 harg3 arg4 harg4 arg5 harg5 arg6 harg6 arg7 harg7 arg8 harg8 arg9 harg9 arg10 harg10 hc0 x0 x1 x2).2.1 ![1, 1, 16, 256] (by sl_kernel_rfl) y

/-- What the first point leaves in the scratch of the transposed values. -/
def sout0_A_1 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) : Vec F S4x8x144x1024 .bf16 :=
  VS0_1.read (Elt F) (VS0_1.writes (Elt F) VS0_1.junk (kernelRun0_A c i arg3 harg3 arg4 harg4 arg5 harg5 arg6 harg6 arg7 harg7 arg8 harg8 arg9 harg9 arg10 harg10 hc0 x0 x1 x2).2.1)

/-- A later point stores nothing into the mean keys. -/
def sout0_B_0 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : ¬cond0_0 i)
    (x0 : Vec F S1x256x512 .bf16) (x1 : Vec F S1x8192x512 .bf16) (x2 : Vec F S1x8192x512 .bf16) (xs0 : Vec F S4x32x128 .f32) (xs1 : Vec F S4x8x144x1024 .bf16) : Vec F S4x32x128 .f32 := xs0

/-- A later point stores nothing into the transposed values. -/
def sout0_B_1 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : ¬cond0_0 i)
    (x0 : Vec F S1x256x512 .bf16) (x1 : Vec F S1x8192x512 .bf16) (x2 : Vec F S1x8192x512 .bf16) (xs0 : Vec F S4x32x128 .f32) (xs1 : Vec F S4x8x144x1024 .bf16) : Vec F S4x8x144x1024 .bf16 := xs1

/-! ## What the outputs hold after each point -/

/-- What the carried scratch, and the output where it is named, hold after each point, by recursion on the points. -/
def outsAt0 (c : Dev nD) : (n : ℕ) → n < cfg0.N → Vec F S4x32x128 .f32 × Vec F S4x8x144x1024 .bf16
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 32 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- The same at the first point of a sequence. -/
theorem outsAt0_A (c : Dev nD) (t : Fin cfg0.N) (h0 : t.val % 32 = 0) :
    outsAt0 m c t.val t.isLt = (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- The same at a later point, from what the point before left. -/
theorem outsAt0_B (c : Dev nD) (t : Fin cfg0.N) (h0 : ¬t.val % 32 = 0) :
    outsAt0 m c t.val t.isLt = (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before a point: the scratch at anything before the first, and afterwards the carried scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after a point has that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2) ∗ (∃ d, owns (c : Thread nD τ) scM0_2 fullShare d) ∗ (∃ d, owns (c : Thread nD τ) scM0_3 fullShare d)) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output, of whose contents the frame says nothing. -/
def forgets0 : Fin 4 → Bool := fun w => w.val == 3

/-- The data of the pipeline: the arrays as the region finds them, the buffers after each point, the invariant, and the shares of the one array that three windows read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ t := PhiS m c t.val (Nat.le_of_lt_succ t.isLt)
  q w := Pipeline.shareOf spec0 w
  owed _ := 0

/-- The arrays of these data are those that the region finds. -/
theorem A_eq (c : Dev nD) (w : Fin cfg0.W) : (dats m 0 c).A w = V m c (Pipeline.arrRef spec0 w) := by
  dsimp only [dats]

/-- The invariant at a point's start, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The buffer of the queries after a point holds their block. -/
theorem after0_0 (c : Dev nD) (t : Fin cfg0.N) : (dats m 0 c).after 0 t = iblk m c 0 t := by dsimp only [dats]
/-- So does that of the keys. -/
theorem after0_1 (c : Dev nD) (t : Fin cfg0.N) : (dats m 0 c).after 1 t = iblk m c 1 t := by dsimp only [dats]
/-- So does that of the values. -/
theorem after0_2 (c : Dev nD) (t : Fin cfg0.N) : (dats m 0 c).after 2 t = iblk m c 2 t := by dsimp only [dats]

/-- The buffer of the queries before a point holds their block. -/
theorem before0_0 (c : Dev nD) (t : Fin cfg0.N) (d) : (dats m 0 c).before 0 t d = iblk m c 0 t :=
  before0_0_of m (dats m 0 c) (A_eq m c 0) (after0_0 m c) t d
/-- So does that of the keys. -/
theorem before0_1 (c : Dev nD) (t : Fin cfg0.N) (d) : (dats m 0 c).before 1 t d = iblk m c 1 t :=
  before0_1_of m (dats m 0 c) (A_eq m c 1) (after0_1 m c) t d
/-- So does that of the values. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 6400000 in
/-- The body at any point: by its case, the run of the case applies, and the invariant passes from one point to the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2]
  rw [show (dats m 0 c).Φ t.succ = PhiS m c (t.val + 1) t.isLt from rfl, PhiS_succ]
  have hN : t.val < 128 := lt_of_lt_of_eq t.isLt (show cfg0.N = 128 from N_0)
  by_cases h0 : t.val % 32 = 0
  · by_cases hz : t.val = 0
    · rw [PhiS_castSucc m c t, PhiS_zero m c _ _ hz, PhiA0_eq]
      rw [outsAt0_A m c t h0]
      unfold sout0_A_0 sout0_A_1; (try dsimp only)
      iintro ⟨⟨⟨HS0, HS1, HS2, HS3⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ ((hcond0_0 t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, H3, ⟨%es0, HS0⟩, ⟨%es1, HS1⟩, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          isplitl [HS2]
          · iexact HS2
          iexact HS3
        iexact Hg
      isplitl [Ho]; · iexact Ho
      isplitl [H0]; · iexact H0
      isplitl [H1]; · iexact H1
      isplitl [H2]; · iexact H2
      iexact H3
    · rw [PhiS_castSucc m c t, PhiS_pos m c _ _ hz]
      rw [outsAt0_A m c t h0]
      unfold sout0_A_0 sout0_A_1; (try dsimp only)
      iintro ⟨⟨⟨HS0, HS1, HS2, HS3⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ ((hcond0_0 t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexact HS2
      isplitl [HS3]; · iexact HS3
      iintro ⟨H0, H1, H2, H3, ⟨%es0, HS0⟩, ⟨%es1, HS1⟩, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          isplitl [HS2]
          · iexact HS2
          iexact HS3
        iexact Hg
      isplitl [Ho]; · iexact Ho
      isplitl [H0]; · iexact H0
      isplitl [H1]; · iexact H1
      isplitl [H2]; · iexact H2
      iexact H3
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold sout0_B_0 sout0_B_1; (try dsimp only)
      iintro ⟨⟨⟨HS0, HS1, HS2, HS3⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ (fun h => h0 ((hcond0_0 t).mp h)) (iblk m c 0 t) (iblk m c 1 t) (iblk m c 2 t) _ _).2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      iexact H3

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- So the body meets its obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back, at contents no longer named. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- The launch: the call runs to the end, with the arrays as stated and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument ends as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (fun c => (dats m 0 c).toRForget forgets0) (A_eq m) (run_main m ρ)

/-- The call runs, leaves its argument as it was and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Kernel.Moba

end
-- ==== Proof.MobaRunA.lean ====
/-
  The run of the attention call's body at the first point of a sequence, where the scratch is filled.
-/
module

public import proofs.«01_k».proof.Proof.Gen.KernelIdeal.Frame.Runs

@[expose] public section

set_option maxRecDepth 16384

noncomputable section

namespace Cert.KernelIdeal.Moba

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of the body at the first point of a sequence, where the scratch is filled: from buffers that hold their blocks it ends with the inputs as they were, the output with its pieces stored, and leaves its pieces in the two carried scratches. -/
noncomputable def kernelRun0_A (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) :
    Σ' (L3 : List (View.Piece (Elt F) S1x256x512 .bf16)), Σ' (LS0 : List (View.Piece (Elt F) S4x32x128 .f32)), { LS1 : List (View.Piece (Elt F) S4x8x144x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ d, owns (c : Thread nD τ) arg9 fullShare d) ∗ (∃ d, owns (c : Thread nD τ) arg10 fullShare d)) -∗ K ⟨⟩))
          ⊢ wp frame (wpE (defs₀ (F := F)) Variants.none c none) E (cc0_moba i arg3 harg3 arg4 harg4 arg5 harg5 arg6 harg6 arg7 harg7 arg8 harg8 arg9 harg9 arg10 harg10) K } := by
  refine ⟨?_, ?_, ?_, fun E K => ?run⟩
  case run =>
    simp only [cc0_moba_eq_skeleton]; unfold cc0_moba_skel
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2
    sl_exec (disch := first | sl_exact hc0)
    sl_step
    have hE : arg8.view.writes (Elt F) fs1 (pb_k0_t1 Variants.none c none i arg3 harg3 arg4 harg4 arg5 harg5 arg6 harg6 arg7 harg7 arg8 harg8 arg9 harg9 arg10 harg10 hc0 (harg4.unread x1) (harg5.unread x2) (Scf.trips k0_t1_loop.lb k0_t1_loop.ub k0_t1_loop.st)).2
        = arg8.view.writes (Elt F) arg8.view.junk (pb_k0_t1 Variants.none c none i arg3 harg3 arg4 harg4 arg5 harg5 arg6 harg6 arg7 harg7 arg8 harg8 arg9 harg9 arg10 harg10 hc0 (harg4.unread x1) (harg5.unread x2) (Scf.trips k0_t1_loop.lb k0_t1_loop.ub k0_t1_loop.st)).2 :=
      (harg8.eq_unread (View.read_writes_of_cover _ _ _ _ _ (fun y => View.cover_of_tiledBy _ ![1, 1, 16, 256] (by sl_kernel_rfl) y))).trans (harg8.unread_read _)
    unfold kernelRun0_A.sl.r_35 kernelRun0_A.sl.r_36 kernelRun0_A.sl.r_37
    rw [hE]
    clear hE
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

end Cert.KernelIdeal.Moba

end
-- ==== Proof.MobaRunB.lean ====
/-
  The run of the attention call's body at the later points, over the scratch the first point left.
-/
module

public import proofs.«01_k».proof.Proof.MobaRunA

@[expose] public section

set_option maxRecDepth 16384

noncomputable section

namespace Cert.KernelIdeal.Moba

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run of the body at a later point, where the carried scratch is what the point before left: from buffers that hold their blocks it ends with the inputs as they were, the output with its pieces stored, and leaves that scratch. -/
noncomputable def kernelRun0_B (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : ¬cond0_0 i)
    (x0 : Vec F S1x256x512 .bf16) (x1 : Vec F S1x8192x512 .bf16) (x2 : Vec F S1x8192x512 .bf16) (xs0 : Vec F S4x32x128 .f32) (xs1 : Vec F S4x8x144x1024 .bf16) :
    Σ' (L3 : List (View.Piece (Elt F) S1x256x512 .bf16)), Σ' (LS0 : List (View.Piece (Elt F) S4x32x128 .f32)), { LS1 : List (View.Piece (Elt F) S4x8x144x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ (∃ d, owns (c : Thread nD τ) arg9 fullShare d) ∗ (∃ d, owns (c : Thread nD τ) arg10 fullShare d)) -∗ K ⟨⟩))
          ⊢ wp frame (wpE (defs₀ (F := F)) Variants.none c none) E (cc0_moba i arg3 harg3 arg4 harg4 arg5 harg5 arg6 harg6 arg7 harg7 arg8 harg8 arg9 harg9 arg10 harg10) K } := by
  refine ⟨?_, [], [], fun E K => ?run⟩
  case run =>
    simp only [cc0_moba_eq_skeleton]; unfold cc0_moba_skel
    simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    isplitl [HS2]
    · iexists _, _; isplitr; swap; · iexact HS2
      ipureintro; rfl
    iexists _, _; isplitr; swap; · iexact HS3
    ipureintro; rfl

end Cert.KernelIdeal.Moba

end
-- ==== Proof.MobaFrame.lean ====
/-
  The frame of the attention call, its body run in two cases, and what each grid point leaves.
-/
module

public import proofs.«01_k».proof.Proof.MobaRunB
public import Idealize.ShloMosaic.Lib.Claim

@[expose] public section

set_option maxRecDepth 16384

noncomputable section

namespace Cert.KernelIdeal.Moba

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The pieces that the first point stores cover its output block. -/
theorem cover0_A_3 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) (y : S1x256x512.Idx) :
    ∃ pc ∈ (kernelRun0_A c i arg3 harg3 arg4 harg4 arg5 harg5 arg6 harg6 arg7 harg7 arg8 harg8 arg9 harg9 arg10 harg10 hc0 x0 x1 x2).1, y ∈ pc.1.set :=
  View.cover_of_tiledL (kernelRun0_A c i arg3 harg3 arg4 harg4 arg5 harg5 arg6 harg6 arg7 harg7 arg8 harg8 arg9 harg9 arg10 harg10 hc0 x0 x1 x2).1 S1x256x128.size (by sl_kernel_rfl) y

/-- What the first point leaves in the output buffer. -/
def out0_A_3 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) : Vec F S1x256x512 .bf16 :=
  VO0_3.read (Elt F) (VO0_3.writes (Elt F) VO0_3.junk (kernelRun0_A c i arg3 harg3 arg4 harg4 arg5 harg5 arg6 harg6 arg7 harg7 arg8 harg8 arg9 harg9 arg10 harg10 hc0 x0 x1 x2).1)

/-- The pieces that the first point stores cover the scratch of the mean keys. -/
theorem scover0_A_0 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) (y : S4x32x128.Idx) :
    ∃ pc ∈ (kernelRun0_A c i arg3 harg3 arg4 harg4 arg5 harg5 arg6 harg6 arg7 harg7 arg8 harg8 arg9 harg9 arg10 harg10 hc0 x0 x1 x2).2.1, y ∈ pc.1.set :=
  View.cover_of_wholeMem (kernelRun0_A c i arg3 harg3 arg4 harg4 arg5 harg5 arg6 harg6 arg7 harg7 arg8 harg8 arg9 harg9 arg10 harg10 hc0 x0 x1 x2).2.1 (by sl_whole_mem) y

/-- What the first point leaves in the scratch of the mean keys. -/
def sout0_A_0 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) : Vec F S4x32x128 .f32 :=
  VS0_0.read (Elt F) (VS0_0.writes (Elt F) VS0_0.junk (kernelRun0_A c i arg3 harg3 arg4 harg4 arg5 harg5 arg6 harg6 arg7 harg7 arg8 harg8 arg9 harg9 arg10 harg10 hc0 x0 x1 x2).2.1)

/-- The pieces that the first point stores cover the scratch of the transposed values. -/
theorem scover0_A_1 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) (y : S4x8x144x1024.Idx) :
    ∃ pc ∈ (kernelRun0_A c i arg3 harg3 arg4 harg4 arg5 harg5 arg6 harg6 arg7 harg7 arg8 harg8 arg9 harg9 arg10 harg10 hc0 x0 x1 x2).2.2.1, y ∈ pc.1.set :=
  View.cover_of_tiledBy (kernelRun0_A c i arg3 harg3 arg4 harg4 arg5 harg5 arg6 harg6 arg7 harg7 arg8 harg8 arg9 harg9 arg10 harg10 hc0 x0 x1 x2).2.2.1 ![1, 1, 16, 256] (by sl_kernel_rfl) y

/-- What the first point leaves in the scratch of the transposed values. -/
def sout0_A_1 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec F S1x256x512 .bf16) (x1 : Vec F S1x8192x512 .bf16) (x2 : Vec F S1x8192x512 .bf16) : Vec F S4x8x144x1024 .bf16 :=
  VS0_1.read (Elt F) (VS0_1.writes (Elt F) VS0_1.junk (kernelRun0_A c i arg3 harg3 arg4 harg4 arg5 harg5 arg6 harg6 arg7 harg7 arg8 harg8 arg9 harg9 arg10 harg10 hc0 x0 x1 x2).2.2.1)

/-- The pieces that a later point stores cover its output block. -/
theorem cover0_B_3 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : ¬cond0_0 i)
    (x0 : Vec F S1x256x512 .bf16) (x1 : Vec F S1x8192x512 .bf16) (x2 : Vec F S1x8192x512 .bf16) (xs0 : Vec F S4x32x128 .f32) (xs1 : Vec F S4x8x144x1024 .bf16) (y : S1x256x512.Idx) :
    ∃ pc ∈ (kernelRun0_B c i arg3 harg3 arg4 harg4 arg5 harg5 arg6 harg6 arg7 harg7 arg8 harg8 arg9 harg9 arg10 harg10 hc0 x0 x1 x2 xs0 xs1).1, y ∈ pc.1.set :=
  View.cover_of_tiledL (kernelRun0_B c i arg3 harg3 arg4 harg4 arg5 harg5 arg6 harg6 arg7 harg7 arg8 harg8 arg9 harg9 arg10 harg10 hc0 x0 x1 x2 xs0 xs1).1 S1x256x128.size (by sl_kernel_rfl) y

/-- What a later point leaves in the output buffer. -/
def out0_B_3 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : ¬cond0_0 i)
    (x0 : Vec F S1x256x512 .bf16) (x1 : Vec F S1x8192x512 .bf16) (x2 : Vec F S1x8192x512 .bf16) (xs0 : Vec F S4x32x128 .f32) (xs1 : Vec F S4x8x144x1024 .bf16) : Vec F S1x256x512 .bf16 :=
  VO0_3.read (Elt F) (VO0_3.writes (Elt F) VO0_3.junk (kernelRun0_B c i arg3 harg3 arg4 harg4 arg5 harg5 arg6 harg6 arg7 harg7 arg8 harg8 arg9 harg9 arg10 harg10 hc0 x0 x1 x2 xs0 xs1).1)

/-- A later point stores nothing into the mean keys. -/
def sout0_B_0 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : ¬cond0_0 i)
    (x0 : Vec F S1x256x512 .bf16) (x1 : Vec F S1x8192x512 .bf16) (x2 : Vec F S1x8192x512 .bf16) (xs0 : Vec F S4x32x128 .f32) (xs1 : Vec F S4x8x144x1024 .bf16) : Vec F S4x32x128 .f32 := xs0

/-- A later point stores nothing into the transposed values. -/
def sout0_B_1 (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : ¬cond0_0 i)
    (x0 : Vec F S1x256x512 .bf16) (x1 : Vec F S1x8192x512 .bf16) (x2 : Vec F S1x8192x512 .bf16) (xs0 : Vec F S4x32x128 .f32) (xs1 : Vec F S4x8x144x1024 .bf16) : Vec F S4x8x144x1024 .bf16 := xs1

/-! ## What the outputs hold after each point -/

/-- What the carried scratch, and the output where it is named, hold after each point, by recursion on the points. -/
def outsAt0 (c : Dev nD) : (n : ℕ) → n < cfg0.N → Vec F S1x256x512 .bf16 × Vec F S4x32x128 .f32 × Vec F S4x8x144x1024 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 32 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- The same at the first point of a sequence. -/
theorem outsAt0_A (c : Dev nD) (t : Fin cfg0.N) (h0 : t.val % 32 = 0) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- The same at a later point, from what the point before left. -/
theorem outsAt0_B (c : Dev nD) (t : Fin cfg0.N) (h0 : ¬t.val % 32 = 0) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before a point: the scratch at anything before the first, and afterwards the carried scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d) ∗ (∃ d, owns (c : Thread nD τ) scM0_3 fullShare d)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after a point has that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2) ∗ (∃ d, owns (c : Thread nD τ) scM0_2 fullShare d) ∗ (∃ d, owns (c : Thread nD τ) scM0_3 fullShare d)) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The data of the pipeline: the arrays as the region finds them, the buffers after each point, the invariant, and the shares of the one array that three windows read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := Pipeline.shareOf spec0 w
  owed _ := 0

/-- The arrays of these data are those that the region finds. -/
theorem A_eq (c : Dev nD) (w : Fin cfg0.W) : (dats m 0 c).A w = V m c (Pipeline.arrRef spec0 w) := by
  dsimp only [dats]

/-- The invariant at a point's start, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The buffer of the queries after a point holds their block. -/
theorem after0_0 (c : Dev nD) (t : Fin cfg0.N) : (dats m 0 c).after 0 t = iblk m c 0 t := by dsimp only [dats]
/-- So does that of the keys. -/
theorem after0_1 (c : Dev nD) (t : Fin cfg0.N) : (dats m 0 c).after 1 t = iblk m c 1 t := by dsimp only [dats]
/-- So does that of the values. -/
theorem after0_2 (c : Dev nD) (t : Fin cfg0.N) : (dats m 0 c).after 2 t = iblk m c 2 t := by dsimp only [dats]
/-- That of the output holds what the point leaves. -/
theorem after0_3 (c : Dev nD) (t : Fin cfg0.N) : (dats m 0 c).after 3 t = (outsAt0 m c t.val t.isLt).1 := by dsimp only [dats]

/-- The buffer of the queries before a point holds their block. -/
theorem before0_0 (c : Dev nD) (t : Fin cfg0.N) (d) : (dats m 0 c).before 0 t d = iblk m c 0 t :=
  before0_0_of m (dats m 0 c) (A_eq m c 0) (after0_0 m c) t d
/-- So does that of the keys. -/
theorem before0_1 (c : Dev nD) (t : Fin cfg0.N) (d) : (dats m 0 c).before 1 t d = iblk m c 1 t :=
  before0_1_of m (dats m 0 c) (A_eq m c 1) (after0_1 m c) t d
/-- So does that of the values. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 6400000 in
/-- The body at any point: by its case, the run of the case applies, and the invariant passes from one point to the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 128 := lt_of_lt_of_eq t.isLt (show cfg0.N = 128 from N_0)
  by_cases h0 : t.val % 32 = 0
  · by_cases hz : t.val = 0
    · rw [PhiS_castSucc m c t, PhiS_zero m c _ _ hz, PhiA0_eq]
      rw [outsAt0_A m c t h0]
      unfold out0_A_3 sout0_A_0 sout0_A_1; (try dsimp only)
      iintro ⟨⟨⟨HS0, HS1, HS2, HS3⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, ⟨%es0, HS0⟩, ⟨%es1, HS1⟩, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          isplitl [HS2]
          · iexact HS2
          iexact HS3
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _ _ _)
    · rw [PhiS_castSucc m c t, PhiS_pos m c _ _ hz]
      rw [outsAt0_A m c t h0]
      unfold out0_A_3 sout0_A_0 sout0_A_1; (try dsimp only)
      iintro ⟨⟨⟨HS0, HS1, HS2, HS3⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexact HS2
      isplitl [HS3]; · iexact HS3
      iintro ⟨H0, H1, H2, ⟨%e3, H3⟩, ⟨%es0, HS0⟩, ⟨%es1, HS1⟩, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _)
          isplitl [HS2]
          · iexact HS2
          iexact HS3
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _ _ _ _ _ _ _)
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold out0_B_3 sout0_B_0 sout0_B_1; (try dsimp only)
      iintro ⟨⟨⟨HS0, HS1, HS2, HS3⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ (fun h => h0 ((hcond0_0 t).mp h)) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _ _ _ _ _ _ _ _)

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- So the body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back, at contents no longer named. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- The launch: the call runs to the end, with the arrays as stated and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument ends as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The call runs, leaves its argument as it was and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Moba

end
-- ==== Proof.MobaBlocks.lean ====
/-
  The result array of the attention call, block by block.
-/
module

public import proofs.«01_k».proof.Proof.MobaFrame
public import Idealize.ShloMosaic.Lib.Pipeline.Value

@[expose] public section

noncomputable section

namespace Cert.KernelIdeal.MobaV

open Cert.KernelIdeal Cert.KernelIdeal.Gen Cert.KernelIdeal.Moba Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 32 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t)) := by
  simp only [flushed3, outsAt0_A m c t h0]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 32 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed3, outsAt0_B m c t h0]

/-- The index map sends distinct grid points to distinct block indices (decided over the 128 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S2x8192x1024.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0) = (dats m 0 c).arrAt 3 cfg0.N :=
  (h c).1 3

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0) :=
  (θ_run defs _ _).mono (fun r h c => ⟨post3 m r h c,
      kept_main_arg0 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 32)
    stores the scratch whole without reading what it held, and `acc` does not enter there (nor where no point meets the
    conditions: `acc`, never read). -/
def scAt0_0 (c : Dev nD) (n : ℕ) (hb : n < cfg0.N) (acc : Vec F S4x32x128 .f32) : Vec F S4x32x128 .f32 :=
  if h0 : n % 32 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2

/-- WHAT CARRIED SCRATCH 0 HOLDS after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2.1) 32 (fun n h => scAt0_0 m c n h (VS0_0.read (Elt F) VS0_0.junk)) (scAt0_0 m c)
    (fun n h hn => by
      have hN := lt_of_lt_of_eq h (show cfg0.N = 128 from N_0)
      by_cases h0 : n % 32 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 128 from N_0)
      by_cases h0 : (n + 1) % 32 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the points ≡ 0 (mod 32)
    stores the scratch whole without reading what it held, and `acc` does not enter there (nor where no point meets the
    conditions: `acc`, never read). -/
def scAt0_1 (c : Dev nD) (n : ℕ) (hb : n < cfg0.N) (acc : Vec F S4x8x144x1024 .bf16) : Vec F S4x8x144x1024 .bf16 :=
  if h0 : n % 32 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N))
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc

/-- WHAT CARRIED SCRATCH 1 HOLDS after point `t`: the fold of its run up to `t`, from the reset at the run's first point
    `32·(t / 32)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2 = Pipeline.accAt (fun n h => scAt0_1 m c n h (VS0_1.read (Elt F) VS0_1.junk)) (scAt0_1 m c) (32 * (t.val / 32)) (t.val % 32)
      (by have h1 := t.isLt; have h2 := Nat.div_add_mod t.val 32; omega) :=
  Pipeline.eq_accAt_of_mod (fun n h => (outsAt0 m c n h).2.2) 32 (fun n h => scAt0_1 m c n h (VS0_1.read (Elt F) VS0_1.junk)) (scAt0_1 m c)
    (fun n h hn => by
      have hN := lt_of_lt_of_eq h (show cfg0.N = 128 from N_0)
      by_cases h0 : n % 32 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 128 from N_0)
      by_cases h0 : (n + 1) % 32 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

end Cert.KernelIdeal.MobaV

end
-- ==== Proof.MobaClaims.lean ====
/-
  The claims about the attention call: its frames, and what its idealization keeps.
-/
module

public import proofs.«01_k».proof.Defs
public import proofs.«01_k».proof.Proof.MobaKernelFrame
public import proofs.«01_k».proof.Proof.MobaBlocks
public import proofs.«01_k».proof.Proof.Gen.ReferenceIdeal.Run

@[expose] public section

noncomputable section

open Idealize.ShloMosaic Idealize.ShloMosaic.TcCoe Idealize.SL.Sem

namespace Cert.Proof.MobaClaims

/-- The attention as written runs, leaves its argument and ends quiet. -/
theorem frame_k : Cert.quiescent_Kernel (hKernel := Cert.Kernel.Gen.facts) := fun m ρ _ => Cert.Kernel.Moba.frame m ρ

/-- So does its idealization. -/
theorem frame_ki : Cert.quiescent_KernelIdeal (hKernelIdeal := Cert.KernelIdeal.Gen.facts) := fun m ρ _ => Cert.KernelIdeal.Moba.frame m ρ

/-- So does the reference, which has no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The idealization names two constants by the reals they were computed from: the scale of the exponent and the mask. -/
theorem preserves : Cert.preserves_Kernel_KernelIdeal :=
  ⟨IdealRules.named_const.statement Cert.KernelIdeal.κ "exp_scale" .f32 0x3E0293EE#32 (((Real.sqrt 128)⁻¹ * (Real.log 2)⁻¹ : ℝ) : EReal) rfl,
    IdealRules.named_const.statement Cert.KernelIdeal.κ "mask" .f32 0xCE800000#32 ⊥ rfl⟩

end Cert.Proof.MobaClaims

end
-- ==== Proof.MobaFinite.lean ====
/-
  The precondition of the attention's value claim: every element of the array is a real.
-/
module

public import proofs.«01_k».proof.Defs
public import proofs.«01_k».proof.Proof.Gen.Pre_finite
public import Idealize.ShloMosaic.Lib.ReduceAll
public import Idealize.ShloMosaic.Lib.Pointwise

@[expose] public section

noncomputable section

open Idealize.ShloMosaic Idealize.ShloMosaic.TcCoe Idealize.SL.Sem

namespace Cert.Proof.MobaFinite

/-- The word of infinity. -/
theorem pinf : Ideal.ofBits FTy.f32 2139095040#32 = (⊤ : EReal) := by simp [Ideal.ofBits, Ideal.ieee]

/-- An extended real whose absolute value is below infinity is a real. -/
theorem real_of_abs (x : EReal) (h : max x (-x) < ⊤) : ∃ r : ℝ, x = (r : EReal) := by
  refine ⟨x.toReal, (EReal.coe_toReal ?_ ?_).symm⟩
  · rintro rfl
    simp at h
  · rintro rfl
    simp at h

/-- Every element of an array that satisfies the precondition is a real. -/
theorem real_of_finite (X : FVec Ideal Cert.Pre_finite.S2x8192x9216 .bf16) (h : Cert.Pre_finite.fn (F := Ideal) X = fun _ => 1#1) (i : Cert.Pre_finite.S2x8192x9216.Idx) :
    ∃ r : ℝ, X i = (r : EReal) := by
  have h0 := congrFun h ix0
  unfold Cert.Pre_finite.fn at h0
  dsimp only at h0
  have h1 := (Host.reduce_andi_all _ _ _ _ _ h0) i
  have h2 : BitVec.ofBool (decide (max (X i) (-(X i)) < Ideal.ofBits FTy.f32 2139095040#32)) = 1#1 := h1
  rw [pinf] at h2
  refine real_of_abs (X i) ?_
  by_contra hn
  simp [hn] at h2

end Cert.Proof.MobaFinite

end
-- ==== Proof.MobaTrip.lean ====
/-
  One trip of the attention call's loop over groups of four key blocks, head by head: the running maximum and the
  running sums, each read at an element.
-/
module

public import proofs.«01_k».proof.Proof.MobaBlocks
public import Idealize.ShloMosaic.Lib.Pointwise

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

/-- What the loop carries: the running maximum and the running sums of each of the four heads. -/
abbrev Carry : Type := FVec Ideal S1x256 .f32 × FVec Ideal S144x256 .f32 × FVec Ideal S1x256 .f32 × FVec Ideal S144x256 .f32 × FVec Ideal S1x256 .f32 × FVec Ideal S144x256 .f32 × FVec Ideal S1x256 .f32 × FVec Ideal S144x256 .f32

/-- The running maximum of column `l` after group `k`: over the rows of the group's four blocks, each the score with its block's mask added. -/
def mNew (S : FVec Ideal S4x1024x256 .f32) (M : FVec Ideal S4x32x256 .f32) (h : Fin 4) (k : ℕ) (hk : k < 8) (l : Fin 256) (m : EReal) : EReal :=
  max (max (max (max m (Finset.univ.fold max (Ideal.ofBits FTy.f32 4286578688#32) (fun x : Fin 256 => S (ix3 h ⟨x.val, by omega⟩ l) + M (ix3 h ⟨4 * k + 0, by omega⟩ l))))
    (Finset.univ.fold max (Ideal.ofBits FTy.f32 4286578688#32) (fun x : Fin 256 => S (ix3 h ⟨256 + x.val, by omega⟩ l) + M (ix3 h ⟨4 * k + 1, by omega⟩ l))))
    (Finset.univ.fold max (Ideal.ofBits FTy.f32 4286578688#32) (fun x : Fin 256 => S (ix3 h ⟨512 + x.val, by omega⟩ l) + M (ix3 h ⟨4 * k + 2, by omega⟩ l))))
    (Finset.univ.fold max (Ideal.ofBits FTy.f32 4286578688#32) (fun x : Fin 256 => S (ix3 h ⟨768 + x.val, by omega⟩ l) + M (ix3 h ⟨4 * k + 3, by omega⟩ l)))

/-- The running sum `d` after group `k`, under the new maximum `mm`. -/
def aNew (V : FVec Ideal S4x8x144x1024 .bf16) (S : FVec Ideal S4x1024x256 .f32) (M : FVec Ideal S4x32x256 .f32) (h : Fin 4) (k : ℕ) (hk : k < 8) (l : Fin 256) (m mm : EReal)
    (d : Fin 144) (a : EReal) : EReal :=
  Ideal.exp2 (m - mm) * a
    + ∑ r : Fin 1024, V (ix4 h ⟨k, hk⟩ d r) * Ideal.exp2 (S (ix3 h r l) + M (ix3 h ⟨4 * k + r.val / 256, by omega⟩ l) - mm)

/-- The row of the mask that the trip of group `k` reads for its block `u`. -/
theorem row_eq (k : ℕ) (hk : k < 8) (u : ℕ) (hu : u < 4) :
    BitVec.toNat (Scalar.indexCast (Scalar.addi (Scalar.muli (Scf.iv 0#32 1#32 k) 4#32) (BitVec.ofNat 32 u))) = 4 * k + u := by
  interval_cases k <;> interval_cases u <;> rfl

/-- The group that trip `k` reads. -/
theorem grp_eq (k : ℕ) (hk : k < 8) : BitVec.toNat (Scalar.indexCast (Scf.iv 0#32 1#32 k)) = k := by
  interval_cases k <;> rfl

/-- A value chosen by the block of its row is the value at the row. -/
theorem ladder (S : FVec Ideal S4x1024x256 .f32) (M : FVec Ideal S4x32x256 .f32) (h : Fin 4) (k : ℕ) (hk : k < 8) (l : Fin 256) (mm : EReal) (r : ℕ) (hr : r < 1024)
    (n0 n1 n2 n3 : ℕ) (h0 : n0 < 32) (h1 : n1 < 32) (h2 : n2 < 32) (h3 : n3 < 32) (e0 : n0 = 4 * k + 0) (e1 : n1 = 4 * k + 1) (e2 : n2 = 4 * k + 2) (e3 : n3 = 4 * k + 3) :
    (if h_1 : r < 256 then FloatOps.exp2 (F := Ideal) (φ := .f32) (S (ix3 h ⟨r, by omega⟩ l) + M (ix3 h ⟨n0, h0⟩ l) - mm)
     else if h_2 : r - 256 < 256 then FloatOps.exp2 (F := Ideal) (φ := .f32) (S (ix3 h ⟨256 + (r - 256), by omega⟩ l) + M (ix3 h ⟨n1, h1⟩ l) - mm)
     else if h_3 : r - 256 - 256 < 256 then FloatOps.exp2 (F := Ideal) (φ := .f32) (S (ix3 h ⟨512 + (r - 256 - 256), by omega⟩ l) + M (ix3 h ⟨n2, h2⟩ l) - mm)
     else FloatOps.exp2 (F := Ideal) (φ := .f32) (S (ix3 h ⟨768 + (r - 256 - 256 - 256), by omega⟩ l) + M (ix3 h ⟨n3, h3⟩ l) - mm))
      = Ideal.exp2 (S (ix3 h ⟨r, hr⟩ l) + M (ix3 h ⟨4 * k + r / 256, by omega⟩ l) - mm) := by
  subst e0 e1 e2 e3
  have key : ∀ (a : ℕ) (ha : a < 1024) (b : ℕ) (hb : b < 32), a = r → b = 4 * k + r / 256 →
      FloatOps.exp2 (F := Ideal) (φ := .f32) (S (ix3 h ⟨a, ha⟩ l) + M (ix3 h ⟨b, hb⟩ l) - mm) = Ideal.exp2 (S (ix3 h ⟨r, hr⟩ l) + M (ix3 h ⟨4 * k + r / 256, by omega⟩ l) - mm) := by
    intro a ha b hb ea eb
    subst ea eb
    rfl
  split
  · exact key r (by omega) (4 * k + 0) (by omega) rfl (by omega)
  split
  · exact key (256 + (r - 256)) (by omega) (4 * k + 1) (by omega) (by omega) (by omega)
  split
  · exact key (512 + (r - 256 - 256)) (by omega) (4 * k + 2) (by omega) (by omega) (by omega)
  · exact key (768 + (r - 256 - 256 - 256)) (by omega) (4 * k + 3) (by omega) (by omega) (by omega)

/-- Head 0's running maximum after a trip. -/
theorem trip_m_0 (i : grid0.Coords) (arg8 : Memref sig .tc .vmem S4x8x144x1024 .bf16) (arg9 : Memref sig .tc .vmem S4x32x256 .f32) (arg10 : Memref sig .tc .vmem S4x1024x256 .f32) (X8 : BufTy.Contents (Elt Ideal) arg8.view.ty) (X9 : BufTy.Contents (Elt Ideal) arg9.view.ty)
    (k : Fin (k0_t2_loop i).trips) (hk : k.val < 8) (acc : Carry) (f : BufTy.Contents (Elt Ideal) arg10.view.ty) (l : Fin 256) :
    (trip_k0_t2.sl.r i arg9 arg10 X9 k acc f : FVec Ideal S1x256 .f32) (ix2 0 l) = mNew (arg10.view.read (Elt Ideal) f) (arg9.view.read (Elt Ideal) X9) 0 k.val hk l (acc.1 (ix2 0 l)) := by
  sl_unfold_words
  simp only [View.readAt_eq_ld]
  unfold_payloads
  pointwise
  simp only [row_eq k.val hk 0 (by decide), row_eq k.val hk 1 (by decide), row_eq k.val hk 2 (by decide), row_eq k.val hk 3 (by decide)]
  rw [mNew]

/-- Head 0's running sums after a trip. -/
theorem trip_a_0 (i : grid0.Coords) (arg8 : Memref sig .tc .vmem S4x8x144x1024 .bf16) (arg9 : Memref sig .tc .vmem S4x32x256 .f32) (arg10 : Memref sig .tc .vmem S4x1024x256 .f32) (X8 : BufTy.Contents (Elt Ideal) arg8.view.ty) (X9 : BufTy.Contents (Elt Ideal) arg9.view.ty)
    (k : Fin (k0_t2_loop i).trips) (hk : k.val < 8) (acc : Carry) (f : BufTy.Contents (Elt Ideal) arg10.view.ty) (l : Fin 256) (d : Fin 144) :
    (trip_k0_t2.sl.v531 i arg8 arg9 arg10 X8 X9 k acc f : FVec Ideal S144x256 .f32) (ix2 d l) = aNew (arg8.view.read (Elt Ideal) X8) (arg10.view.read (Elt Ideal) f) (arg9.view.read (Elt Ideal) X9) 0 k.val hk l (acc.1 (ix2 0 l))
      (mNew (arg10.view.read (Elt Ideal) f) (arg9.view.read (Elt Ideal) X9) 0 k.val hk l (acc.1 (ix2 0 l))) d (acc.2.1 (ix2 d l)) := by
  rw [← trip_m_0 i arg8 arg9 arg10 X8 X9 k hk acc f l]
  generalize hm : (trip_k0_t2.sl.r i arg9 arg10 X9 k acc f : FVec Ideal S1x256 .f32) (ix2 0 l) = mm
  revert hm
  sl_unfold_words
  simp only [View.readAt_eq_ld]
  unfold_payloads
  pointwise
  intro hm
  simp only [hm]
  unfold aNew
  refine congrArg₂ (· + ·) rfl (Finset.sum_congr rfl fun r _ => ?_)
  simp only [grp_eq k.val hk]
  refine congrArg₂ (· * ·) rfl ?_
  exact ladder _ _ 0 k.val hk l mm r.val r.isLt _ _ _ _ _ _ _ _ (row_eq k.val hk 0 (by decide)) (row_eq k.val hk 1 (by decide)) (row_eq k.val hk 2 (by decide)) (row_eq k.val hk 3 (by decide))

/-- Head 1's running maximum after a trip. -/
theorem trip_m_1 (i : grid0.Coords) (arg8 : Memref sig .tc .vmem S4x8x144x1024 .bf16) (arg9 : Memref sig .tc .vmem S4x32x256 .f32) (arg10 : Memref sig .tc .vmem S4x1024x256 .f32) (X8 : BufTy.Contents (Elt Ideal) arg8.view.ty) (X9 : BufTy.Contents (Elt Ideal) arg9.view.ty)
    (k : Fin (k0_t2_loop i).trips) (hk : k.val < 8) (acc : Carry) (f : BufTy.Contents (Elt Ideal) arg10.view.ty) (l : Fin 256) :
    (trip_k0_t2.sl.r_7 i arg9 arg10 X9 k acc f : FVec Ideal S1x256 .f32) (ix2 0 l) = mNew (arg10.view.read (Elt Ideal) f) (arg9.view.read (Elt Ideal) X9) 1 k.val hk l (acc.2.2.1 (ix2 0 l)) := by
  sl_unfold_words
  simp only [View.readAt_eq_ld]
  unfold_payloads
  pointwise
  simp only [row_eq k.val hk 0 (by decide), row_eq k.val hk 1 (by decide), row_eq k.val hk 2 (by decide), row_eq k.val hk 3 (by decide)]
  rw [mNew]

/-- Head 1's running sums after a trip. -/
theorem trip_a_1 (i : grid0.Coords) (arg8 : Memref sig .tc .vmem S4x8x144x1024 .bf16) (arg9 : Memref sig .tc .vmem S4x32x256 .f32) (arg10 : Memref sig .tc .vmem S4x1024x256 .f32) (X8 : BufTy.Contents (Elt Ideal) arg8.view.ty) (X9 : BufTy.Contents (Elt Ideal) arg9.view.ty)
    (k : Fin (k0_t2_loop i).trips) (hk : k.val < 8) (acc : Carry) (f : BufTy.Contents (Elt Ideal) arg10.view.ty) (l : Fin 256) (d : Fin 144) :
    (trip_k0_t2.sl.v614 i arg8 arg9 arg10 X8 X9 k acc f : FVec Ideal S144x256 .f32) (ix2 d l) = aNew (arg8.view.read (Elt Ideal) X8) (arg10.view.read (Elt Ideal) f) (arg9.view.read (Elt Ideal) X9) 1 k.val hk l (acc.2.2.1 (ix2 0 l))
      (mNew (arg10.view.read (Elt Ideal) f) (arg9.view.read (Elt Ideal) X9) 1 k.val hk l (acc.2.2.1 (ix2 0 l))) d (acc.2.2.2.1 (ix2 d l)) := by
  rw [← trip_m_1 i arg8 arg9 arg10 X8 X9 k hk acc f l]
  generalize hm : (trip_k0_t2.sl.r_7 i arg9 arg10 X9 k acc f : FVec Ideal S1x256 .f32) (ix2 0 l) = mm
  revert hm
  sl_unfold_words
  simp only [View.readAt_eq_ld]
  unfold_payloads
  pointwise
  intro hm
  simp only [hm]
  unfold aNew
  refine congrArg₂ (· + ·) rfl (Finset.sum_congr rfl fun r _ => ?_)
  simp only [grp_eq k.val hk]
  refine congrArg₂ (· * ·) rfl ?_
  exact ladder _ _ 1 k.val hk l mm r.val r.isLt _ _ _ _ _ _ _ _ (row_eq k.val hk 0 (by decide)) (row_eq k.val hk 1 (by decide)) (row_eq k.val hk 2 (by decide)) (row_eq k.val hk 3 (by decide))

/-- Head 2's running maximum after a trip. -/
theorem trip_m_2 (i : grid0.Coords) (arg8 : Memref sig .tc .vmem S4x8x144x1024 .bf16) (arg9 : Memref sig .tc .vmem S4x32x256 .f32) (arg10 : Memref sig .tc .vmem S4x1024x256 .f32) (X8 : BufTy.Contents (Elt Ideal) arg8.view.ty) (X9 : BufTy.Contents (Elt Ideal) arg9.view.ty)
    (k : Fin (k0_t2_loop i).trips) (hk : k.val < 8) (acc : Carry) (f : BufTy.Contents (Elt Ideal) arg10.view.ty) (l : Fin 256) :
    (trip_k0_t2.sl.r_11 i arg9 arg10 X9 k acc f : FVec Ideal S1x256 .f32) (ix2 0 l) = mNew (arg10.view.read (Elt Ideal) f) (arg9.view.read (Elt Ideal) X9) 2 k.val hk l (acc.2.2.2.2.1 (ix2 0 l)) := by
  sl_unfold_words
  simp only [View.readAt_eq_ld]
  unfold_payloads
  pointwise
  simp only [row_eq k.val hk 0 (by decide), row_eq k.val hk 1 (by decide), row_eq k.val hk 2 (by decide), row_eq k.val hk 3 (by decide)]
  rw [mNew]

/-- Head 2's running sums after a trip. -/
theorem trip_a_2 (i : grid0.Coords) (arg8 : Memref sig .tc .vmem S4x8x144x1024 .bf16) (arg9 : Memref sig .tc .vmem S4x32x256 .f32) (arg10 : Memref sig .tc .vmem S4x1024x256 .f32) (X8 : BufTy.Contents (Elt Ideal) arg8.view.ty) (X9 : BufTy.Contents (Elt Ideal) arg9.view.ty)
    (k : Fin (k0_t2_loop i).trips) (hk : k.val < 8) (acc : Carry) (f : BufTy.Contents (Elt Ideal) arg10.view.ty) (l : Fin 256) (d : Fin 144) :
    (trip_k0_t2.sl.v697 i arg8 arg9 arg10 X8 X9 k acc f : FVec Ideal S144x256 .f32) (ix2 d l) = aNew (arg8.view.read (Elt Ideal) X8) (arg10.view.read (Elt Ideal) f) (arg9.view.read (Elt Ideal) X9) 2 k.val hk l (acc.2.2.2.2.1 (ix2 0 l))
      (mNew (arg10.view.read (Elt Ideal) f) (arg9.view.read (Elt Ideal) X9) 2 k.val hk l (acc.2.2.2.2.1 (ix2 0 l))) d (acc.2.2.2.2.2.1 (ix2 d l)) := by
  rw [← trip_m_2 i arg8 arg9 arg10 X8 X9 k hk acc f l]
  generalize hm : (trip_k0_t2.sl.r_11 i arg9 arg10 X9 k acc f : FVec Ideal S1x256 .f32) (ix2 0 l) = mm
  revert hm
  sl_unfold_words
  simp only [View.readAt_eq_ld]
  unfold_payloads
  pointwise
  intro hm
  simp only [hm]
  unfold aNew
  refine congrArg₂ (· + ·) rfl (Finset.sum_congr rfl fun r _ => ?_)
  simp only [grp_eq k.val hk]
  refine congrArg₂ (· * ·) rfl ?_
  exact ladder _ _ 2 k.val hk l mm r.val r.isLt _ _ _ _ _ _ _ _ (row_eq k.val hk 0 (by decide)) (row_eq k.val hk 1 (by decide)) (row_eq k.val hk 2 (by decide)) (row_eq k.val hk 3 (by decide))

/-- Head 3's running maximum after a trip. -/
theorem trip_m_3 (i : grid0.Coords) (arg8 : Memref sig .tc .vmem S4x8x144x1024 .bf16) (arg9 : Memref sig .tc .vmem S4x32x256 .f32) (arg10 : Memref sig .tc .vmem S4x1024x256 .f32) (X8 : BufTy.Contents (Elt Ideal) arg8.view.ty) (X9 : BufTy.Contents (Elt Ideal) arg9.view.ty)
    (k : Fin (k0_t2_loop i).trips) (hk : k.val < 8) (acc : Carry) (f : BufTy.Contents (Elt Ideal) arg10.view.ty) (l : Fin 256) :
    (trip_k0_t2.sl.r_15 i arg9 arg10 X9 k acc f : FVec Ideal S1x256 .f32) (ix2 0 l) = mNew (arg10.view.read (Elt Ideal) f) (arg9.view.read (Elt Ideal) X9) 3 k.val hk l (acc.2.2.2.2.2.2.1 (ix2 0 l)) := by
  sl_unfold_words
  simp only [View.readAt_eq_ld]
  unfold_payloads
  pointwise
  simp only [row_eq k.val hk 0 (by decide), row_eq k.val hk 1 (by decide), row_eq k.val hk 2 (by decide), row_eq k.val hk 3 (by decide)]
  rw [mNew]

/-- Head 3's running sums after a trip. -/
theorem trip_a_3 (i : grid0.Coords) (arg8 : Memref sig .tc .vmem S4x8x144x1024 .bf16) (arg9 : Memref sig .tc .vmem S4x32x256 .f32) (arg10 : Memref sig .tc .vmem S4x1024x256 .f32) (X8 : BufTy.Contents (Elt Ideal) arg8.view.ty) (X9 : BufTy.Contents (Elt Ideal) arg9.view.ty)
    (k : Fin (k0_t2_loop i).trips) (hk : k.val < 8) (acc : Carry) (f : BufTy.Contents (Elt Ideal) arg10.view.ty) (l : Fin 256) (d : Fin 144) :
    (k0_pay209 (trip_k0_t2.sl.r_16 i arg9 arg10 X9 k acc f) (trip_k0_t2.sl.r_17 i arg8 arg9 arg10 X8 X9 k acc f) : FVec Ideal S144x256 .f32) (ix2 d l) = aNew (arg8.view.read (Elt Ideal) X8) (arg10.view.read (Elt Ideal) f) (arg9.view.read (Elt Ideal) X9) 3 k.val hk l (acc.2.2.2.2.2.2.1 (ix2 0 l))
      (mNew (arg10.view.read (Elt Ideal) f) (arg9.view.read (Elt Ideal) X9) 3 k.val hk l (acc.2.2.2.2.2.2.1 (ix2 0 l))) d (acc.2.2.2.2.2.2.2 (ix2 d l)) := by
  rw [← trip_m_3 i arg8 arg9 arg10 X8 X9 k hk acc f l]
  generalize hm : (trip_k0_t2.sl.r_15 i arg9 arg10 X9 k acc f : FVec Ideal S1x256 .f32) (ix2 0 l) = mm
  revert hm
  sl_unfold_words
  simp only [View.readAt_eq_ld]
  unfold_payloads
  pointwise
  intro hm
  simp only [hm]
  unfold aNew
  refine congrArg₂ (· + ·) rfl (Finset.sum_congr rfl fun r _ => ?_)
  simp only [grp_eq k.val hk]
  refine congrArg₂ (· * ·) rfl ?_
  exact ladder _ _ 3 k.val hk l mm r.val r.isLt _ _ _ _ _ _ _ _ (row_eq k.val hk 0 (by decide)) (row_eq k.val hk 1 (by decide)) (row_eq k.val hk 2 (by decide)) (row_eq k.val hk 3 (by decide))

end Cert.KernelIdeal.Moba
end
-- ==== Proof.MobaScore.lean ====
/-
  The scores that a trip of the attention call's loop leaves for the next trip, and the state that the loop carries.
-/
module

public import proofs.«01_k».proof.Proof.MobaTrip
public import Idealize.ShloMosaic.Lib.WritesUnit

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

/-- Two row indices of one block with equal positions. -/
theorem emb3 {d1 d2 : ℕ} (h : Fin 4) (r : Fin d1) (l : Fin d2) : ∀ a, ((ix3 h r l : Shape.Idx ⟨3, ![4, d1, d2]⟩) a).val = (![h.val, 0, 0] : Fin 3 → ℕ) a + ((ix3 (0 : Fin 1) r l : Shape.Idx ⟨3, ![1, d1, d2]⟩) a).val := by
  intro a
  match a with
  | ⟨0, _⟩ => exact (Nat.add_zero _).symm
  | ⟨1, _⟩ => exact (Nat.zero_add _).symm
  | ⟨2, _⟩ => exact (Nat.zero_add _).symm

/-- A buffer of four planes, stored a plane at a time, read at an element of plane `h`: the payload stored there. -/
theorem four_planes {d1 d2 : ℕ} {e : EltTy} (m : Memref sig .tc .vmem ⟨3, ![4, d1, d2]⟩ e) (f : m.view.ty.Contents (Elt Ideal)) (L : List (View.Piece (Elt Ideal) ⟨3, ![4, d1, d2]⟩ e))
    (i3 : ∀ a, (![3, 0, 0] : Fin 3 → ℕ) a + (![1, d1, d2] : Fin 3 → ℕ) a ≤ (![4, d1, d2] : Fin 3 → ℕ) a) (i2 : ∀ a, (![2, 0, 0] : Fin 3 → ℕ) a + (![1, d1, d2] : Fin 3 → ℕ) a ≤ (![4, d1, d2] : Fin 3 → ℕ) a)
    (i1 : ∀ a, (![1, 0, 0] : Fin 3 → ℕ) a + (![1, d1, d2] : Fin 3 → ℕ) a ≤ (![4, d1, d2] : Fin 3 → ℕ) a) (i0 : ∀ a, (![0, 0, 0] : Fin 3 → ℕ) a + (![1, d1, d2] : Fin 3 → ℕ) a ≤ (![4, d1, d2] : Fin 3 → ℕ) a)
    (w3 w2 w1 w0 : Shape.Idx ⟨3, ![1, d1, d2]⟩ → Elt Ideal e) (h : Fin 4) (r : Fin d1) (l : Fin d2) :
    m.view.read (Elt Ideal) (m.view.writes (Elt Ideal) f
      ((⟨Rect.unit (s := ⟨3, ![4, d1, d2]⟩) ![3, 0, 0] ![1, d1, d2] i3, w3⟩ : View.Piece (Elt Ideal) ⟨3, ![4, d1, d2]⟩ e) :: (⟨Rect.unit (s := ⟨3, ![4, d1, d2]⟩) ![2, 0, 0] ![1, d1, d2] i2, w2⟩ : View.Piece (Elt Ideal) ⟨3, ![4, d1, d2]⟩ e)
        :: (⟨Rect.unit (s := ⟨3, ![4, d1, d2]⟩) ![1, 0, 0] ![1, d1, d2] i1, w1⟩ : View.Piece (Elt Ideal) ⟨3, ![4, d1, d2]⟩ e) :: (⟨Rect.unit (s := ⟨3, ![4, d1, d2]⟩) ![0, 0, 0] ![1, d1, d2] i0, w0⟩ : View.Piece (Elt Ideal) ⟨3, ![4, d1, d2]⟩ e) :: L)) (ix3 h r l)
      = (match h with | 0 => w0 | 1 => w1 | 2 => w2 | 3 => w3) (ix3 0 r l) := by
  have skip : ∀ (p : ℕ) (inb : ∀ a, (![p, 0, 0] : Fin 3 → ℕ) a + (![1, d1, d2] : Fin 3 → ℕ) a ≤ (![4, d1, d2] : Fin 3 → ℕ) a) (w : Shape.Idx ⟨3, ![1, d1, d2]⟩ → Elt Ideal e) (L : List (View.Piece (Elt Ideal) ⟨3, ![4, d1, d2]⟩ e)), h.val < p ∨ p + 1 ≤ h.val →
      m.view.read (Elt Ideal) (m.view.writes (Elt Ideal) f ((⟨Rect.unit (s := ⟨3, ![4, d1, d2]⟩) ![p, 0, 0] ![1, d1, d2] inb, w⟩ : View.Piece (Elt Ideal) ⟨3, ![4, d1, d2]⟩ e) :: L)) (ix3 h r l) = m.view.read (Elt Ideal) (m.view.writes (Elt Ideal) f L) (ix3 h r l) :=
    fun p inb w L hp => View.read_writes_cons_unit_of_not_mem m.view f inb w L (ix3 h r l) rfl (0 : Fin 3) hp
  have hit : ∀ (p : ℕ) (inb : ∀ a, (![p, 0, 0] : Fin 3 → ℕ) a + (![1, d1, d2] : Fin 3 → ℕ) a ≤ (![4, d1, d2] : Fin 3 → ℕ) a) (w : Shape.Idx ⟨3, ![1, d1, d2]⟩ → Elt Ideal e) (L : List (View.Piece (Elt Ideal) ⟨3, ![4, d1, d2]⟩ e)), h.val = p →
      m.view.read (Elt Ideal) (m.view.writes (Elt Ideal) f ((⟨Rect.unit (s := ⟨3, ![4, d1, d2]⟩) ![p, 0, 0] ![1, d1, d2] inb, w⟩ : View.Piece (Elt Ideal) ⟨3, ![4, d1, d2]⟩ e) :: L)) (ix3 h r l) = w (ix3 0 r l) := by
    intro p inb w L hp
    subst hp
    exact View.read_writes_cons_unit_of_mem m.view f inb w L (ix3 h r l) (ix3 0 r l) rfl (emb3 h r l)
  match h, skip, hit with
  | 0, skip, hit => exact ((skip 3 i3 w3 _ (by decide)).trans ((skip 2 i2 w2 _ (by decide)).trans ((skip 1 i1 w1 _ (by decide)).trans (hit 0 i0 w0 _ rfl))))
  | 1, skip, hit => exact ((skip 3 i3 w3 _ (by decide)).trans ((skip 2 i2 w2 _ (by decide)).trans (hit 1 i1 w1 _ rfl)))
  | 2, skip, hit => exact ((skip 3 i3 w3 _ (by decide)).trans (hit 2 i2 w2 _ rfl))
  | 3, skip, hit => exact (hit 3 i3 w3 _ rfl)

/-- The row of the keys that the trip of group `k` reads first for the next trip. -/
theorem next_eq (k : ℕ) (hk : k < 8) :
    BitVec.toNat (Scalar.indexCast (Scalar.muli (Scalar.minsi (Scalar.addi (Scf.iv 0#32 1#32 k) 1#32) 7#32) 1024#32)) = min (k + 1) 7 * 1024 := by
  interval_cases k <;> rfl

/-- The factor of the scores: the logarithm to the base two of e, over the square root of the head's width. -/
def cE : EReal := (((Real.sqrt 128)⁻¹ * (Real.log 2)⁻¹ : ℝ) : EReal)

/-- The named factor of the kernel is that number. -/
theorem named_scale : (Named.named (F := Ideal) (φ := .f32) κ "exp_scale" (1040356334#32 : BitVec FTy.f32.bits) : Ideal FTy.f32) = cE := IdealRules.named_const.ideal_named_scalar _ _ _ _ rfl

/-- The score of row `r` of group `g` for column `l`, of the head with queries `q` at columns `128 * h` of the keys. -/
def sc (K : FVec Ideal S1x8192x512 .bf16) (q : FVec Ideal S256x128 .bf16) (h : Fin 4) (g : ℕ) (hg : g < 8) (r : Fin 1024) (l : Fin 256) : EReal :=
  (∑ d : Fin 128, K (ix3 0 ⟨g * 1024 + r.val, by omega⟩ ⟨128 * h.val + d.val, by omega⟩) * q (ix2 l d)) * cE

/-- Two elements of the keys with equal rows and columns. -/
theorem keys_at (a1 b1 a2 b2 : ℕ) (h1 : a1 < 8192) (h2 : b1 < 8192) (h3 : a2 < 512) (h4 : b2 < 512) (e1 : a1 = b1) (e2 : a2 = b2) :
    (ix3 0 ⟨a1, h1⟩ ⟨a2, h3⟩ : S1x8192x512.Idx) = ix3 0 ⟨b1, h2⟩ ⟨b2, h4⟩ := by
  subst e1 e2
  rfl

/-- The four heads' queries. -/
abbrev pick4 {α : Type} (a b c d : α) (h : Fin 4) : α := match h with | 0 => a | 1 => b | 2 => c | 3 => d

/-- The scores that a trip leaves: those of the next group, or of the last group again. -/
theorem trip_S (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (v6 v8 v10 v12 : FVec Ideal S256x128 .bf16) (v329 : FVec Ideal S1x256 .f32) (v339 : FVec Ideal S144x256 .f32) (v344 : FVec Ideal S1x256 .f32) (v354 : FVec Ideal S144x256 .f32) (v359 : FVec Ideal S1x256 .f32) (v369 : FVec Ideal S144x256 .f32) (v374 : FVec Ideal S1x256 .f32) (v384 : FVec Ideal S144x256 .f32) (v385 : BitVec 32) (c1 : BitVec 32)
    (X4 : BufTy.Contents (Elt Ideal) arg4.view.ty) (X8 : BufTy.Contents (Elt Ideal) arg8.view.ty) (X9 : BufTy.Contents (Elt Ideal) arg9.view.ty) (k : Fin (k0_t2_loop i).trips) (hk : k.val < 8) (acc : Carry) (f G : BufTy.Contents (Elt Ideal) arg10.view.ty) (L : List (View.Piece (Elt Ideal) S4x1024x256 .f32))
    (h : Fin 4) (r : Fin 1024) (l : Fin 256) :
    arg10.view.read (Elt Ideal) (arg10.view.writes (Elt Ideal) G (tripL_k0_t2 (F := Ideal) Variants.none c none i arg3 harg3 arg4 harg4 arg5 harg5 arg6 harg6 arg7 harg7 arg8 harg8 arg9 harg9 arg10 harg10 v6 v8 v10 v12 v329 v339 v344 v354 v359 v369 v374 v384 v385 c1 X4 X8 X9 k acc f ++ L)) (ix3 h r l)
      = sc (arg4.view.read (Elt Ideal) X4) (pick4 v6 v8 v10 v12 h) h (min (k.val + 1) 7) (by omega) r l := by
  unfold tripL_k0_t2 trip_k0_t2
  dsimp only
  sl_unfold_words
  simp only [List.cons_append, List.nil_append]
  refine (four_planes (d1 := 1024) (d2 := 256) arg10 G L _ _ _ _ _ _ _ _ h r l).trans ?_
  match h with
  | 0 =>
    show k0_pay56 v6 _ (ix3 0 r l) = _
    simp only [View.readAt_eq_ld]
    unfold_payloads
    pointwise
    unfold sc
    refine congrArg₂ (· * ·) (Finset.sum_congr rfl fun x _ => congrArg₂ (· * ·) (congrArg _ (keys_at _ _ _ _ _ _ _ _ ?_ ?_)) rfl) ?_
    · exact congrArg (· + r.val) (next_eq k.val hk)
    · show x.val = 128 * 0 + x.val; omega
    · exact named_scale
  | 1 =>
    show k0_pay67 v8 _ (ix3 0 r l) = _
    simp only [View.readAt_eq_ld]
    unfold_payloads
    pointwise
    unfold sc
    refine congrArg₂ (· * ·) (Finset.sum_congr rfl fun x _ => congrArg₂ (· * ·) (congrArg _ (keys_at _ _ _ _ _ _ _ _ ?_ ?_)) rfl) ?_
    · exact congrArg (· + r.val) (next_eq k.val hk)
    · rfl
    · exact named_scale
  | 2 =>
    show k0_pay79 v10 _ (ix3 0 r l) = _
    simp only [View.readAt_eq_ld]
    unfold_payloads
    pointwise
    unfold sc
    refine congrArg₂ (· * ·) (Finset.sum_congr rfl fun x _ => congrArg₂ (· * ·) (congrArg _ (keys_at _ _ _ _ _ _ _ _ ?_ ?_)) rfl) ?_
    · exact congrArg (· + r.val) (next_eq k.val hk)
    · rfl
    · exact named_scale
  | 3 =>
    show k0_pay91 v12 _ (ix3 0 r l) = _
    simp only [View.readAt_eq_ld]
    unfold_payloads
    pointwise
    unfold sc
    refine congrArg₂ (· * ·) (Finset.sum_congr rfl fun x _ => congrArg₂ (· * ·) (congrArg _ (keys_at _ _ _ _ _ _ _ _ ?_ ?_)) rfl) ?_
    · exact congrArg (· + r.val) (next_eq k.val hk)
    · rfl
    · exact named_scale

end Cert.KernelIdeal.Moba
end
-- ==== Proof.MobaMath.lean ====
/-
  The arithmetic of one running step of the attention call over the reals: a running maximum that is real, and running
  sums that are real multiples of a power of two.
-/
module

public import proofs.«01_k».proof.Proof.MobaScore

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

/-- The word of minus infinity. -/
theorem ninf : Ideal.ofBits FTy.f32 4286578688#32 = (⊥ : EReal) := by simp [Ideal.ofBits, Ideal.ieee]

/-- A sum of reals is the real sum. -/
theorem sum_coe {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A score that is real, or minus infinity where its block is not taken. -/
def masked (hit : Prop) [Decidable hit] (t : ℝ) : EReal := if hit then (t : EReal) else ⊥

/-- Two to a masked score, relative to a real maximum. -/
theorem exp2_masked (hit : Prop) [Decidable hit] (t M : ℝ) :
    Ideal.exp2 (masked hit t - (M : EReal)) = ((Real.rpow 2 (-M) * (if hit then Real.rpow 2 t else 0) : ℝ) : EReal) := by
  unfold masked
  split
  · rw [← EReal.coe_sub, Ideal.exp2_coe]
    congr 1
    show (2 : ℝ) ^ (t - M) = (2 : ℝ) ^ (-M) * (2 : ℝ) ^ t
    rw [← Real.rpow_add (by norm_num)]
    congr 1
    ring
  · rw [EReal.bot_sub, Ideal.exp2_bot, mul_zero, EReal.coe_zero]

/-- A masked score is below the top. -/
theorem masked_lt (hit : Prop) [Decidable hit] (t : ℝ) : masked hit t < ⊤ := by
  unfold masked
  split
  · exact EReal.coe_lt_top t
  · exact bot_lt_top

/-- A number between a real and the top is real. -/
theorem real_of {x : EReal} {M : ℝ} (h1 : (M : EReal) ≤ x) (h2 : x < ⊤) : ∃ M' : ℝ, x = (M' : EReal) := by
  refine ⟨x.toReal, (EReal.coe_toReal h2.ne ?_).symm⟩
  rintro rfl
  exact absurd (lt_of_lt_of_le (EReal.bot_lt_coe M) h1) (lt_irrefl _)

/-- The largest of values below the top is below the top. -/
theorem fold_lt {n : ℕ} (f : Fin n → EReal) (h : ∀ x, f x < ⊤) : Finset.univ.fold max (Ideal.ofBits FTy.f32 4286578688#32) f < ⊤ :=
  (Finset.fold_max_lt _).2 ⟨by rw [ninf]; exact bot_lt_top, fun x _ => h x⟩

/-- What column `l` of head `h` sees of group `g`'s row `r`. -/
structure Sees (S : FVec Ideal S4x1024x256 .f32) (M : FVec Ideal S4x32x256 .f32) (h : Fin 4) (k : ℕ) (hk : k < 8) (l : Fin 256) (hit : Fin 32 → Prop) [DecidablePred hit]
    (t : Fin 1024 → ℝ) : Prop where
  /-- A score is real. -/
  score : ∀ r, S (ix3 h r l) = (t r : EReal)
  /-- A block's mask is zero where the block is taken, else minus infinity. -/
  mask : ∀ n, M (ix3 h n l) = if hit n then (0 : EReal) else ⊥

/-- What a group adds to a running sum, before the division by two to the maximum. -/
def part (hit : Fin 32 → Prop) [DecidablePred hit] (k : ℕ) (hk : k < 8) (v t : Fin 1024 → ℝ) : ℝ :=
  ∑ r : Fin 1024, v r * (if hit ⟨4 * k + r.val / 256, by omega⟩ then Real.rpow 2 (t r) else 0)

variable {S : FVec Ideal S4x1024x256 .f32} {M : FVec Ideal S4x32x256 .f32} {h : Fin 4} {k : ℕ} {hk : k < 8} {l : Fin 256} {hit : Fin 32 → Prop} [DecidablePred hit] {t : Fin 1024 → ℝ}

/-- A score with its mask is a masked score. -/
theorem Sees.add (H : Sees S M h k hk l hit t) (r : Fin 1024) (n : Fin 32) : S (ix3 h r l) + M (ix3 h n l) = masked (hit n) (t r) := by
  rw [H.score, H.mask]
  unfold masked
  split
  · exact add_zero _
  · exact EReal.add_bot _

/-- The new maximum is real. -/
theorem mNew_real (H : Sees S M h k hk l hit t) (m : ℝ) : ∃ m' : ℝ, mNew S M h k hk l (m : EReal) = (m' : EReal) := by
  unfold mNew
  simp only [H.add]
  refine real_of (M := m) ?_ ?_
  · exact le_max_of_le_left (le_max_of_le_left (le_max_of_le_left (le_max_left _ _)))
  · exact max_lt (max_lt (max_lt (max_lt (EReal.coe_lt_top _) (fold_lt _ fun x => masked_lt _ _)) (fold_lt _ fun x => masked_lt _ _)) (fold_lt _ fun x => masked_lt _ _)) (fold_lt _ fun x => masked_lt _ _)

/-- The new running sum is the old one plus what the group adds, under the new maximum. -/
theorem aNew_real (H : Sees S M h k hk l hit t) (V : FVec Ideal S4x8x144x1024 .bf16) (m m' : ℝ) (d : Fin 144) (w : ℝ) (v : Fin 1024 → ℝ)
    (hv : ∀ r, V (ix4 h ⟨k, hk⟩ d r) = ((v r : ℝ) : EReal)) :
    aNew V S M h k hk l (m : EReal) (m' : EReal) d ((Real.rpow 2 (-m) * w : ℝ) : EReal) = ((Real.rpow 2 (-m') * (w + part hit k hk v t) : ℝ) : EReal) := by
  unfold aNew
  simp only [H.add, exp2_masked, hv]
  rw [← EReal.coe_sub, Ideal.exp2_coe, ← EReal.coe_mul]
  simp only [← EReal.coe_mul]
  rw [sum_coe, ← EReal.coe_add]
  congr 1
  unfold part
  rw [mul_add, Finset.mul_sum]
  congr 1
  · rw [← mul_assoc]
    congr 1
    show (2 : ℝ) ^ (m - m') * (2 : ℝ) ^ (-m) = (2 : ℝ) ^ (-m')
    rw [← Real.rpow_add (by norm_num)]
    congr 1
    ring
  · refine Finset.sum_congr rfl fun r _ => ?_
    ring

end Cert.KernelIdeal.Moba
end
-- ==== Proof.MobaLoop.lean ====
/-
  The attention call's loop over groups of key blocks, by induction on the groups taken: the running maximum stays real,
  and each running sum is what the taken groups and the block of the query add up to.
-/
module

public import proofs.«01_k».proof.Proof.MobaMath

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

/-- Head `h`'s running maximum. -/
def mOf (h : Fin 4) (acc : Carry) : FVec Ideal S1x256 .f32 := pick4 acc.1 acc.2.2.1 acc.2.2.2.2.1 acc.2.2.2.2.2.2.1 h

/-- Head `h`'s running sums. -/
def aOf (h : Fin 4) (acc : Carry) : FVec Ideal S144x256 .f32 := pick4 acc.2.1 acc.2.2.2.1 acc.2.2.2.2.2.1 acc.2.2.2.2.2.2.2 h

section
variable (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (v6 v8 v10 v12 : FVec Ideal S256x128 .bf16) (v329 : FVec Ideal S1x256 .f32) (v339 : FVec Ideal S144x256 .f32) (v344 : FVec Ideal S1x256 .f32) (v354 : FVec Ideal S144x256 .f32) (v359 : FVec Ideal S1x256 .f32) (v369 : FVec Ideal S144x256 .f32) (v374 : FVec Ideal S1x256 .f32) (v384 : FVec Ideal S144x256 .f32) (v385 : BitVec 32) (c1 : BitVec 32)
    (X4 : BufTy.Contents (Elt Ideal) arg4.view.ty) (X8 : BufTy.Contents (Elt Ideal) arg8.view.ty) (X9 : BufTy.Contents (Elt Ideal) arg9.view.ty)

/-- A trip's running maximum, of any head. -/
theorem trip_m (k : Fin (k0_t2_loop i).trips) (hk : k.val < 8) (acc : Carry) (f : BufTy.Contents (Elt Ideal) arg10.view.ty) (h : Fin 4) (l : Fin 256) :
    mOf h (tripR_k0_t2 (F := Ideal) Variants.none c none i arg3 harg3 arg4 harg4 arg5 harg5 arg6 harg6 arg7 harg7 arg8 harg8 arg9 harg9 arg10 harg10 v6 v8 v10 v12 v329 v339 v344 v354 v359 v369 v374 v384 v385 c1 X4 X8 X9 k acc f) (ix2 0 l)
      = mNew (arg10.view.read (Elt Ideal) f) (arg9.view.read (Elt Ideal) X9) h k.val hk l (mOf h acc (ix2 0 l)) := by
  unfold tripR_k0_t2 trip_k0_t2
  dsimp only
  match h with
  | 0 => exact trip_m_0 i arg8 arg9 arg10 X8 X9 k hk acc f l
  | 1 => exact trip_m_1 i arg8 arg9 arg10 X8 X9 k hk acc f l
  | 2 => exact trip_m_2 i arg8 arg9 arg10 X8 X9 k hk acc f l
  | 3 => exact trip_m_3 i arg8 arg9 arg10 X8 X9 k hk acc f l

/-- A trip's running sums, of any head. -/
theorem trip_a (k : Fin (k0_t2_loop i).trips) (hk : k.val < 8) (acc : Carry) (f : BufTy.Contents (Elt Ideal) arg10.view.ty) (h : Fin 4) (l : Fin 256) (d : Fin 144) :
    aOf h (tripR_k0_t2 (F := Ideal) Variants.none c none i arg3 harg3 arg4 harg4 arg5 harg5 arg6 harg6 arg7 harg7 arg8 harg8 arg9 harg9 arg10 harg10 v6 v8 v10 v12 v329 v339 v344 v354 v359 v369 v374 v384 v385 c1 X4 X8 X9 k acc f) (ix2 d l)
      = aNew (arg8.view.read (Elt Ideal) X8) (arg10.view.read (Elt Ideal) f) (arg9.view.read (Elt Ideal) X9) h k.val hk l (mOf h acc (ix2 0 l))
        (mNew (arg10.view.read (Elt Ideal) f) (arg9.view.read (Elt Ideal) X9) h k.val hk l (mOf h acc (ix2 0 l))) d (aOf h acc (ix2 d l)) := by
  unfold tripR_k0_t2 trip_k0_t2
  dsimp only
  match h with
  | 0 => exact trip_a_0 i arg8 arg9 arg10 X8 X9 k hk acc f l d
  | 1 => exact trip_a_1 i arg8 arg9 arg10 X8 X9 k hk acc f l d
  | 2 => exact trip_a_2 i arg8 arg9 arg10 X8 X9 k hk acc f l d
  | 3 => exact trip_a_3 i arg8 arg9 arg10 X8 X9 k hk acc f l d

/-- What the first `n` groups add to a running sum. -/
def parts (hit : Fin 32 → Prop) [DecidablePred hit] (v t : Fin 8 → Fin 1024 → ℝ) (n : ℕ) : ℝ :=
  ∑ g ∈ Finset.range n, if hg : g < 8 then part hit g hg (v ⟨g, hg⟩) (t ⟨g, hg⟩) else 0

variable (G : BufTy.Contents (Elt Ideal) arg10.view.ty) (init : Carry)
  (hit : Fin 4 → Fin 256 → Fin 32 → Prop) [∀ h l, DecidablePred (hit h l)]
  (t : Fin 4 → Fin 256 → Fin 8 → Fin 1024 → ℝ) (v : Fin 4 → Fin 144 → Fin 8 → Fin 1024 → ℝ) (m0 : Fin 4 → Fin 256 → ℝ) (w0 : Fin 4 → Fin 256 → Fin 144 → ℝ)

/-- After `n` trips: the scores are those of group `n`, or of the last; the maxima are real; the sums are as stated. -/
theorem loop_state (hT : (k0_t2_loop i).trips ≤ 8)
    (hs : ∀ h g r l, sc (arg4.view.read (Elt Ideal) X4) (pick4 v6 v8 v10 v12 h) h g.val g.isLt r l = ((t h l g r : ℝ) : EReal))
    (hv : ∀ h g d r, arg8.view.read (Elt Ideal) X8 (ix4 h g d r) = ((v h d g r : ℝ) : EReal))
    (hM : ∀ h n l, arg9.view.read (Elt Ideal) X9 (ix3 h n l) = if hit h l n then (0 : EReal) else ⊥)
    (hG : ∀ h r l, arg10.view.read (Elt Ideal) G (ix3 h r l) = ((t h l 0 r : ℝ) : EReal))
    (hm0 : ∀ h l, mOf h init (ix2 0 l) = ((m0 h l : ℝ) : EReal))
    (ha0 : ∀ h l d, aOf h init (ix2 d l) = ((Real.rpow 2 (-m0 h l) * w0 h l d : ℝ) : EReal)) :
    ∀ n : ℕ, n ≤ (k0_t2_loop i).trips →
      (∀ h r l, arg10.view.read (Elt Ideal) (arg10.view.writes (Elt Ideal) G (st_k0_t2 (F := Ideal) Variants.none c none i arg3 harg3 arg4 harg4 arg5 harg5 arg6 harg6 arg7 harg7 arg8 harg8 arg9 harg9 arg10 harg10 v6 v8 v10 v12 v329 v339 v344 v354 v359 v369 v374 v384 v385 c1 X4 X8 X9 G init n).2) (ix3 h r l) = ((t h l ⟨min n 7, by omega⟩ r : ℝ) : EReal))
      ∧ ∀ h l, ∃ m : ℝ, mOf h (st_k0_t2 (F := Ideal) Variants.none c none i arg3 harg3 arg4 harg4 arg5 harg5 arg6 harg6 arg7 harg7 arg8 harg8 arg9 harg9 arg10 harg10 v6 v8 v10 v12 v329 v339 v344 v354 v359 v369 v374 v384 v385 c1 X4 X8 X9 G init n).1 (ix2 0 l) = (m : EReal)
          ∧ ∀ d, aOf h (st_k0_t2 (F := Ideal) Variants.none c none i arg3 harg3 arg4 harg4 arg5 harg5 arg6 harg6 arg7 harg7 arg8 harg8 arg9 harg9 arg10 harg10 v6 v8 v10 v12 v329 v339 v344 v354 v359 v369 v374 v384 v385 c1 X4 X8 X9 G init n).1 (ix2 d l) = ((Real.rpow 2 (-m) * (w0 h l d + parts (hit h l) (v h d) (t h l) n) : ℝ) : EReal) := by
  intro n
  induction n with
  | zero =>
    intro _
    rw [st_k0_t2.eq_1]
    refine ⟨fun h r l => hG h r l, fun h l => ⟨m0 h l, hm0 h l, fun d => ?_⟩⟩
    rw [parts, Finset.range_zero, Finset.sum_empty, add_zero]
    exact ha0 h l d
  | succ n ih =>
    intro hn
    obtain ⟨ihS, ihA⟩ := ih (by omega)
    have hn8 : n < 8 := by omega
    have e7 : (⟨min n 7, by omega⟩ : Fin 8) = ⟨n, hn8⟩ := Fin.ext (Nat.min_eq_left (by omega))
    have hstep := st_k0_t2_succ (F := Ideal) Variants.none c none i arg3 harg3 arg4 harg4 arg5 harg5 arg6 harg6 arg7 harg7 arg8 harg8 arg9 harg9 arg10 harg10 v6 v8 v10 v12 v329 v339 v344 v354 v359 v369 v374 v384 v385 c1 X4 X8 X9 G init ⟨n, by omega⟩
    rw [hstep]
    dsimp only
    refine ⟨fun h r l => ?_, fun h l => ?_⟩
    · exact (trip_S c i arg3 harg3 arg4 harg4 arg5 harg5 arg6 harg6 arg7 harg7 arg8 harg8 arg9 harg9 arg10 harg10 v6 v8 v10 v12 v329 v339 v344 v354 v359 v369 v374 v384 v385 c1 X4 X8 X9 ⟨n, by omega⟩ hn8 _ _ G _ h r l).trans (hs h ⟨min (n + 1) 7, by omega⟩ r l)
    · obtain ⟨m, em, ea⟩ := ihA h l
      have H : Sees (arg10.view.read (Elt Ideal) (arg10.view.writes (Elt Ideal) G (st_k0_t2 (F := Ideal) Variants.none c none i arg3 harg3 arg4 harg4 arg5 harg5 arg6 harg6 arg7 harg7 arg8 harg8 arg9 harg9 arg10 harg10 v6 v8 v10 v12 v329 v339 v344 v354 v359 v369 v374 v384 v385 c1 X4 X8 X9 G init n).2)) (arg9.view.read (Elt Ideal) X9) h n hn8 l (hit h l) (t h l ⟨n, hn8⟩) := by
        refine ⟨fun r => (ihS h r l).trans ?_, fun n => hM h n l⟩
        rw [e7]
      obtain ⟨m', em'⟩ := mNew_real H m
      refine ⟨m', ?_, fun d => ?_⟩
      · rw [trip_m _ _ _ _ _ _ _ _ _ _ _ _ _ _ _ _ _ _ _ _ _ _ _ _ _ _ _ _ _ _ _ _ _ _ _ ⟨n, by omega⟩ hn8, em]
        exact em'
      · rw [trip_a _ _ _ _ _ _ _ _ _ _ _ _ _ _ _ _ _ _ _ _ _ _ _ _ _ _ _ _ _ _ _ _ _ _ _ ⟨n, by omega⟩ hn8, em, ea d]
        refine (congrArg (fun z => aNew _ _ _ h n hn8 l (m : EReal) z d _) em').trans ?_
        refine (aNew_real H _ m m' d _ (v h d ⟨n, hn8⟩) (fun r => hv h ⟨n, hn8⟩ d r)).trans ?_
        rw [add_assoc]
        congr 4
        rw [parts, parts, Finset.sum_range_succ, dif_pos hn8]

end

end Cert.KernelIdeal.Moba
end
-- ==== Proof.MobaInit.lean ====
/-
  What the attention call holds before its loop: of every head the maximum and the sums over the block of the query
  itself, the queries, and the scores of the first group.
-/
module

public import proofs.«01_k».proof.Proof.MobaLoop

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

/-- Head `h`'s queries. -/
def qh (Q : Vec Ideal S1x256x512 .bf16) (h : Fin 4) : FVec Ideal S256x128 .bf16 :=
  fun y => Q (ix3 0 ⟨(y 0).val, (y 0).isLt⟩ ⟨128 * h.val + (y 1).val, by have : (y 1).val < 128 := (y 1).isLt; omega⟩)

/-- The score of row `x` of block `j` for column `l` of the same block: none above the diagonal. -/
def ownT (K : Vec Ideal S1x8192x512 .bf16) (Q : Vec Ideal S1x256x512 .bf16) (h : Fin 4) (j : ℕ) (hj : j < 32) (x l : Fin 256) : EReal :=
  if x.val ≤ l.val then (∑ d : Fin 128, K (ix3 0 ⟨j * 256 + x.val, by omega⟩ ⟨128 * h.val + d.val, by omega⟩) * Q (ix3 0 l ⟨128 * h.val + d.val, by omega⟩)) * cE else ⊥

/-- The largest of them. -/
def ownM (K : Vec Ideal S1x8192x512 .bf16) (Q : Vec Ideal S1x256x512 .bf16) (h : Fin 4) (j : ℕ) (hj : j < 32) (l : Fin 256) : EReal :=
  Finset.univ.fold max (Ideal.ofBits FTy.f32 4286578688#32) fun x : Fin 256 => ownT K Q h j hj x l

/-- The value rows of block `j`, with ones below them. -/
def ownV (V : Vec Ideal S1x8192x512 .bf16) (h : Fin 4) (d : Fin 144) (j : ℕ) (hj : j < 32) (x : Fin 256) : EReal :=
  if hd : d.val < 128 then V (ix3 0 ⟨j * 256 + x.val, by omega⟩ ⟨128 * h.val + d.val, by omega⟩) else 1

/-- The sums over block `j`. -/
def ownA (K V : Vec Ideal S1x8192x512 .bf16) (Q : Vec Ideal S1x256x512 .bf16) (h : Fin 4) (j : ℕ) (hj : j < 32) (d : Fin 144) (l : Fin 256) : EReal :=
  ∑ x : Fin 256, ownV V h d j hj x * Ideal.exp2 (ownT K Q h j hj x l - ownM K Q h j hj l)

/-- The first row of block `j`. -/
theorem own_eq (j : ℕ) (hj : j < 32) : BitVec.toNat (Scalar.indexCast (Scalar.muli (BitVec.ofNat 32 j) 256#32)) = j * 256 := by
  interval_cases j <;> rfl

/-- A choice by a comparison of two rows. -/
theorem select_le (x l : Fin 256) (a b a' : EReal) (h : a = a') :
    Scalar.select (IntOp.cmpi .sle (BitVec.ofNat 32 x.val) (BitVec.ofNat 32 l.val)) a b = if x.val ≤ l.val then a' else b := by
  subst h
  have e : IntOp.cmpi .sle (BitVec.ofNat 32 x.val) (BitVec.ofNat 32 l.val) = 1#1 ↔ x.val ≤ l.val :=
    WordCmp.cmpi_sle_ofNat_eq_one_iff (by omega) (by omega)
  by_cases hx : x.val ≤ l.val
  · rw [if_pos hx, e.2 hx]; rfl
  · rw [if_neg hx]
    have h0 : IntOp.cmpi .sle (BitVec.ofNat 32 x.val) (BitVec.ofNat 32 l.val) = 0#1 := (WordCmp.cmpi_sle_ofNat_eq_zero_iff (by omega) (by omega)).2 (by omega)
    rw [h0]; rfl

/-- Two elements of the queries with equal columns. -/
theorem query_at (l : Fin 256) (a2 b2 : ℕ) (h3 : a2 < 512) (h4 : b2 < 512) (e2 : a2 = b2) :
    (ix3 0 l ⟨a2, h3⟩ : S1x256x512.Idx) = ix3 0 l ⟨b2, h4⟩ := by
  subst e2
  rfl

section
variable (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole)
  (x0 : Vec Ideal S1x256x512 .bf16) (x1 : Vec Ideal S1x8192x512 .bf16) (x2 : Vec Ideal S1x8192x512 .bf16)

/-- The coordinate of the blocks is below their number. -/
theorem coord_lt : (i 2).val < 32 := (i 2).isLt

/-- The queries of the heads. -/
theorem init_q : kernelRun0_B.sl.r c arg3 harg3 x0 = qh x0 0 ∧ kernelRun0_B.sl.r_1 c arg3 harg3 x0 = qh x0 1 ∧ kernelRun0_B.sl.r_2 c arg3 harg3 x0 = qh x0 2 ∧ kernelRun0_B.sl.r_3 c arg3 harg3 x0 = qh x0 3 := by
  refine ⟨?_, ?_, ?_, ?_⟩ <;>
  · funext y
    rw [eq_ix2 y]
    sl_unfold_words
    simp only [View.readAt_eq_ld, harg3.read_unread]
    unfold_payloads
    pointwise
    unfold qh
    exact congrArg x0 (query_at _ _ _ _ _ (by first | rfl | exact (Nat.zero_add _).symm))

/-- The maxima over the block of the query. -/
theorem init_m (l : Fin 256) :
    kernelRun0_B.sl.r_28 c i arg3 harg3 arg4 harg4 x0 x1 (ix2 0 l) = ownM x1 x0 0 (i 2).val (coord_lt i) l
    ∧ kernelRun0_B.sl.r_30 c i arg3 harg3 arg4 harg4 x0 x1 (ix2 0 l) = ownM x1 x0 1 (i 2).val (coord_lt i) l
    ∧ kernelRun0_B.sl.r_32 c i arg3 harg3 arg4 harg4 x0 x1 (ix2 0 l) = ownM x1 x0 2 (i 2).val (coord_lt i) l
    ∧ kernelRun0_B.sl.r_34 c i arg3 harg3 arg4 harg4 x0 x1 (ix2 0 l) = ownM x1 x0 3 (i 2).val (coord_lt i) l := by
  refine ⟨?_, ?_, ?_, ?_⟩ <;>
  · sl_unfold_words
    simp only [View.readAt_eq_ld, harg3.read_unread, harg4.read_unread]
    unfold_payloads
    pointwise
    unfold ownM
    refine congrArg (fun f => Finset.univ.fold max (Ideal.ofBits FTy.f32 4286578688#32) f) (funext fun x => ?_)
    unfold ownT
    rw [← ninf]
    refine select_le x l _ _ _ ?_
    refine congrArg₂ (· * ·) (Finset.sum_congr rfl fun y _ => congrArg₂ (· * ·) (congrArg _ (keys_at _ _ _ _ _ _ _ _ ?_ ?_)) (congrArg _ (query_at _ _ _ _ _ ?_))) named_scale
    · exact congrArg (· + x.val) (own_eq _ (coord_lt i))
    · first | rfl | exact (Nat.zero_add _).symm
    · first | rfl | exact (Nat.zero_add _).symm

/-- The sums over the block of the query. -/
theorem init_a (d : Fin 144) (l : Fin 256) :
    kernelRun0_B.sl.r_29 c i arg3 harg3 arg4 harg4 arg5 harg5 x0 x1 x2 (ix2 d l) = ownA x1 x2 x0 0 (i 2).val (coord_lt i) d l
    ∧ kernelRun0_B.sl.r_31 c i arg3 harg3 arg4 harg4 arg5 harg5 x0 x1 x2 (ix2 d l) = ownA x1 x2 x0 1 (i 2).val (coord_lt i) d l
    ∧ kernelRun0_B.sl.r_33 c i arg3 harg3 arg4 harg4 arg5 harg5 x0 x1 x2 (ix2 d l) = ownA x1 x2 x0 2 (i 2).val (coord_lt i) d l
    ∧ kernelRun0_B.sl.r_35 c i arg3 harg3 arg4 harg4 arg5 harg5 x0 x1 x2 (ix2 d l) = ownA x1 x2 x0 3 (i 2).val (coord_lt i) d l := by
  refine ⟨?_, ?_, ?_, ?_⟩ <;>
  · sl_unfold_words
    simp only [View.readAt_eq_ld, harg3.read_unread, harg4.read_unread, harg5.read_unread]
    unfold_payloads
    pointwise
    unfold ownA
    refine Finset.sum_congr rfl fun x _ => congrArg₂ (· * ·) ?_ (congrArg Ideal.exp2 (congrArg₂ (· - ·) ?_ ?_))
    · unfold ownV
      by_cases hd : d.val < 128
      · rw [dif_pos hd, dif_pos hd]
        refine congrArg _ (keys_at _ _ _ _ _ _ _ _ ?_ ?_)
        · exact congrArg (· + x.val) (own_eq _ (coord_lt i))
        · first | rfl | exact (Nat.zero_add _).symm
      · rw [dif_neg hd, dif_neg hd]
    · unfold ownT
      rw [← ninf]
      refine select_le x l _ _ _ ?_
      refine congrArg₂ (· * ·) (Finset.sum_congr rfl fun y _ => congrArg₂ (· * ·) (congrArg _ (keys_at _ _ _ _ _ _ _ _ ?_ ?_)) (congrArg _ (query_at _ _ _ _ _ ?_))) named_scale
      · exact congrArg (· + x.val) (own_eq _ (coord_lt i))
      · first | rfl | exact (Nat.zero_add _).symm
      · first | rfl | exact (Nat.zero_add _).symm
    · unfold ownM
      refine congrArg (fun f => Finset.univ.fold max (Ideal.ofBits FTy.f32 4286578688#32) f) (funext fun x => ?_)
      unfold ownT
      rw [← ninf]
      refine select_le x l _ _ _ ?_
      refine congrArg₂ (· * ·) (Finset.sum_congr rfl fun y _ => congrArg₂ (· * ·) (congrArg _ (keys_at _ _ _ _ _ _ _ _ ?_ ?_)) (congrArg _ (query_at _ _ _ _ _ ?_))) named_scale
      · exact congrArg (· + x.val) (own_eq _ (coord_lt i))
      · first | rfl | exact (Nat.zero_add _).symm
      · first | rfl | exact (Nat.zero_add _).symm

/-- The scores of the first group. -/
theorem init_S (arg10 : Memref sig .tc .vmem S4x1024x256 .f32) (G : BufTy.Contents (Elt Ideal) arg10.view.ty) (h : Fin 4) (r : Fin 1024) (l : Fin 256) :
    arg10.view.read (Elt Ideal) (arg10.view.writes (Elt Ideal) G (kernelRun0_B.sl.HS3_4 c arg3 harg3 arg4 harg4 x0 x1)) (ix3 h r l) = sc x1 (qh x0 h) h 0 (by omega) r l := by
  unfold kernelRun0_B.sl.HS3_4
  sl_unfold_words
  simp only [List.cons_append, List.nil_append]
  refine (four_planes (d1 := 1024) (d2 := 256) arg10 G _ _ _ _ _ _ _ _ _ h r l).trans ?_
  match h with
  | 0 | 1 | 2 | 3 =>
    dsimp only
    simp only [View.readAt_eq_ld, harg3.read_unread, harg4.read_unread]
    unfold_payloads
    pointwise
    unfold sc qh
    refine congrArg₂ (· * ·) (Finset.sum_congr rfl fun y _ => congrArg₂ (· * ·) (congrArg _ (keys_at _ _ _ _ _ _ _ _ ?_ ?_)) (congrArg _ (query_at _ _ _ _ _ ?_))) named_scale
    · first | rfl | exact (Nat.zero_add _).symm | (show r.val = 0 * 1024 + r.val; omega)
    · first | rfl | exact (Nat.zero_add _).symm
    · first | rfl | exact (Nat.zero_add _).symm

end

section
variable (K V : Vec Ideal S1x8192x512 .bf16) (Q : Vec Ideal S1x256x512 .bf16) (h : Fin 4) (j : ℕ) (hj : j < 32) (l : Fin 256)
  (t : Fin 256 → ℝ) (ht : ∀ x : Fin 256, (∑ d : Fin 128, K (ix3 0 ⟨j * 256 + x.val, by omega⟩ ⟨128 * h.val + d.val, by omega⟩) * Q (ix3 0 l ⟨128 * h.val + d.val, by omega⟩)) * cE = ((t x : ℝ) : EReal))
include ht

/-- A score of the block is a masked real. -/
theorem ownT_real (x : Fin 256) : ownT K Q h j hj x l = masked (x.val ≤ l.val) (t x) := by
  unfold ownT masked
  rw [ht]

/-- The largest of them is real: the first row is always there. -/
theorem ownM_real : ∃ m : ℝ, ownM K Q h j hj l = (m : EReal) := by
  unfold ownM
  refine real_of (M := t 0) ?_ (fold_lt _ fun x => ?_)
  · refine (Finset.le_fold_max _).2 (Or.inr ⟨0, Finset.mem_univ _, ?_⟩)
    rw [ownT_real K Q h j hj l t ht]
    unfold masked
    exact le_of_eq (if_pos (Nat.zero_le l.val)).symm
  · rw [ownT_real K Q h j hj l t ht]
    exact masked_lt _ _

/-- The sums over the block, under its maximum. -/
theorem ownA_real (m : ℝ) (hm : ownM K Q h j hj l = (m : EReal)) (d : Fin 144) (v : Fin 256 → ℝ) (hv : ∀ x, ownV V h d j hj x = ((v x : ℝ) : EReal)) :
    ownA K V Q h j hj d l = ((Real.rpow 2 (-m) * ∑ x : Fin 256, v x * (if x.val ≤ l.val then Real.rpow 2 (t x) else 0) : ℝ) : EReal) := by
  unfold ownA
  simp only [hm, ownT_real K Q h j hj l t ht, exp2_masked, hv, ← EReal.coe_mul]
  rw [sum_coe, Finset.mul_sum]
  congr 1
  refine Finset.sum_congr rfl fun r _ => ?_
  ring

end
end Cert.KernelIdeal.Moba
end
-- ==== Proof.MobaFill.lean ====
/-
  The scratch that the attention call fills at the first point of a sequence: of every head the means of the key blocks,
  and the values by columns, with ones below them.
-/
module

public import proofs.«01_k».proof.Proof.MobaInit
public import Idealize.ShloMosaic.Lib.Pipeline.ReadBack

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

/-- The mean of the keys of block `n`, in head `h`. -/
def kmT (K : Vec Ideal S1x8192x512 .bf16) (h n d : ℕ) (hh : h < 4) (hn : n < 32) (hd : d < 128) : EReal :=
  (∑ x : Fin 256, K (ix3 0 ⟨n * 256 + x.val, by omega⟩ ⟨128 * h + d, by omega⟩)) * Ideal.ofBits FTy.f32 998244352#32

/-- All the means. -/
def kmG (K : Vec Ideal S1x8192x512 .bf16) (y : S4x32x128.Idx) : EReal := kmT K (y 0).val (y 1).val (y 2).val (y 0).isLt (y 1).isLt (y 2).isLt

/-- A row of the values by columns, with ones below. -/
def vtT (V : Vec Ideal S1x8192x512 .bf16) (h g d r : ℕ) (hh : h < 4) (hg : g < 8) (hr : r < 1024) : EReal :=
  if hd : d < 128 then V (ix3 0 ⟨g * 1024 + r, by omega⟩ ⟨128 * h + d, by omega⟩) else 1

/-- All the values by columns. -/
def vtG (V : Vec Ideal S1x8192x512 .bf16) (y : S4x8x144x1024.Idx) : EReal := vtT V (y 0).val (y 1).val (y 2).val (y 3).val (y 0).isLt (y 1).isLt (y 3).isLt

/-- A row of means is inside the buffer. -/
theorem km_inb (h n : ℕ) (hh : h < 4) (hn : n < 32) (off : Fin 3 → ℕ) (e : off = ![h, n, 0]) (a : Fin 3) : off a + (![1, 1, 128] : Fin 3 → ℕ) a ≤ S4x32x128.size a := by
  subst e
  match a with
  | 0 => exact hh
  | 1 => exact hn
  | 2 => exact le_refl 128

/-- A stored row of means. -/
theorem km_piece (K : Vec Ideal S1x8192x512 .bf16) (h n : ℕ) (hh : h < 4) (hn : n < 32) (off : Fin 3 → ℕ) (e : off = ![h, n, 0]) (w : S1x1x128.Idx → EReal)
    (hw : ∀ d : Fin 128, w (ix3 0 0 d) = kmT K h n d.val hh hn d.isLt) : ∀ x, w x = kmG K ((Rect.unit (s := S4x32x128) off ![1, 1, 128] (km_inb h n hh hn off e)).emb x) := by
  subst e
  intro x
  have hx : x = (ix3 0 0 (x 2) : S1x1x128.Idx) := by
    refine (eq_ix3 x).trans ?_
    congr 1 <;> exact Subsingleton.elim _ _
  refine (congrArg w hx).trans ((hw (x 2)).trans ?_)
  unfold kmG
  congr 1
  · show h = h + 1 * (x 0).val; have : (x 0).val < 1 := (x 0).isLt; omega
  · show n = n + 1 * (x 1).val; have : (x 1).val < 1 := (x 1).isLt; omega
  · show (x 2).val = 0 + 1 * (x 2).val; omega

/-- A block of values is inside the buffer. -/
theorem vt_inb (h g u : ℕ) (hh : h < 4) (hg : g < 8) (hu : u < 4) (off : Fin 4 → ℕ) (e : off = ![h, g, 0, u * 256]) (a : Fin 4) : off a + (![1, 1, 128, 256] : Fin 4 → ℕ) a ≤ S4x8x144x1024.size a := by
  subst e
  match a with
  | 0 => exact hh
  | 1 => exact hg
  | 2 => show 0 + 128 ≤ 144; omega
  | 3 => show u * 256 + 256 ≤ 1024; omega

/-- A block of ones is inside the buffer. -/
theorem one_inb (h g : ℕ) (hh : h < 4) (hg : g < 8) (off : Fin 4 → ℕ) (e : off = ![h, g, 128, 0]) (a : Fin 4) : off a + (![1, 1, 16, 1024] : Fin 4 → ℕ) a ≤ S4x8x144x1024.size a := by
  subst e
  match a with
  | 0 => exact hh
  | 1 => exact hg
  | 2 => exact le_refl 144
  | 3 => exact le_refl 1024

/-- A stored block of values by columns. -/
theorem vt_piece (V : Vec Ideal S1x8192x512 .bf16) (h g u : ℕ) (hh : h < 4) (hg : g < 8) (hu : u < 4) (off : Fin 4 → ℕ) (e : off = ![h, g, 0, u * 256]) (w : S1x1x128x256.Idx → EReal)
    (hw : ∀ (d : Fin 128) (r : Fin 256), w (ix4 0 0 d r) = V (ix3 0 ⟨g * 1024 + (u * 256 + r.val), by omega⟩ ⟨128 * h + d.val, by omega⟩)) : ∀ x, w x = vtG V ((Rect.unit (s := S4x8x144x1024) off ![1, 1, 128, 256] (vt_inb h g u hh hg hu off e)).emb x) := by
  subst e
  have inb := vt_inb h g u hh hg hu _ rfl
  intro x
  have hx : x = (ix4 0 0 (x 2) (x 3) : S1x1x128x256.Idx) := by
    refine (eq_ix4 x).trans ?_
    congr 1 <;> exact Subsingleton.elim _ _
  have h2 : (x 2).val < 128 := (x 2).isLt
  have e0 : (((Rect.unit (s := S4x8x144x1024) ![h, g, 0, u * 256] ![1, 1, 128, 256] inb).emb x) 0).val = h := by show h + 1 * (x 0).val = h; have : (x 0).val < 1 := (x 0).isLt; omega
  have e1 : (((Rect.unit (s := S4x8x144x1024) ![h, g, 0, u * 256] ![1, 1, 128, 256] inb).emb x) 1).val = g := by show g + 1 * (x 1).val = g; have : (x 1).val < 1 := (x 1).isLt; omega
  have e2 : (((Rect.unit (s := S4x8x144x1024) ![h, g, 0, u * 256] ![1, 1, 128, 256] inb).emb x) 2).val = (x 2).val := by show 0 + 1 * (x 2).val = (x 2).val; omega
  have e3 : (((Rect.unit (s := S4x8x144x1024) ![h, g, 0, u * 256] ![1, 1, 128, 256] inb).emb x) 3).val = u * 256 + (x 3).val := by show u * 256 + 1 * (x 3).val = _; omega
  refine (congrArg w hx).trans ((hw (x 2) (x 3)).trans ?_)
  unfold vtG vtT
  rw [dif_pos (by rw [e2]; exact h2)]
  refine congrArg V (keys_at _ _ _ _ _ _ _ _ (by rw [e1, e3]) (by rw [e0, e2]))

/-- A stored block of ones. -/
theorem one_piece (V : Vec Ideal S1x8192x512 .bf16) (h g : ℕ) (off : Fin 4 → ℕ) (e : off = ![h, g, 128, 0]) (hh : h < 4) (hg : g < 8) (w : S1x1x16x1024.Idx → EReal)
    (hw : ∀ (d : Fin 16) (r : Fin 1024), w (ix4 0 0 d r) = 1) : ∀ x, w x = vtG V ((Rect.unit (s := S4x8x144x1024) off ![1, 1, 16, 1024] (one_inb h g hh hg off e)).emb x) := by
  subst e
  have inb := one_inb h g hh hg _ rfl
  intro x
  have hx : x = (ix4 0 0 (x 2) (x 3) : S1x1x16x1024.Idx) := by
    refine (eq_ix4 x).trans ?_
    congr 1 <;> exact Subsingleton.elim _ _
  have e2 : (((Rect.unit (s := S4x8x144x1024) ![h, g, 128, 0] ![1, 1, 16, 1024] inb).emb x) 2).val = 128 + (x 2).val := by show 128 + 1 * (x 2).val = _; omega
  refine (congrArg w hx).trans ((hw (x 2) (x 3)).trans ?_)
  unfold vtG vtT
  rw [dif_neg (by rw [e2]; omega)]

/-- Pieces of one value stay so when listed together. -/
theorem pieces_append {s : Shape} {e : EltTy} {G : s.Idx → Elt Ideal e} : ∀ {L M : List (View.Piece (Elt Ideal) s e)}, View.PiecesOf G L → View.PiecesOf G M → View.PiecesOf G (L ++ M)
  | [], _, _, hM => hM
  | _ :: _, _, hL, hM => ⟨hL.1, pieces_append hL.2 hM⟩

/-- The block that a trip fills at its place `u`. -/
theorem blk_at (k u : ℕ) (hk : k < 8) (hu : u < 4) : BitVec.toNat (Scalar.indexCast (Scalar.addi (Scalar.muli (Scf.iv 0#32 1#32 k) 4#32) (BitVec.ofNat 32 u))) = 4 * k + u := by
  interval_cases k <;> interval_cases u <;> rfl

/-- The row of the inputs where that block begins. -/
theorem row_at (k u : ℕ) (hk : k < 8) (hu : u < 4) : BitVec.toNat (Scalar.indexCast (Scalar.muli (Scalar.addi (Scalar.muli (Scf.iv 0#32 1#32 k) 4#32) (BitVec.ofNat 32 u)) 256#32)) = (4 * k + u) * 256 := by
  interval_cases k <;> interval_cases u <;> rfl

/-- The group that a trip fills. -/
theorem grp_at (k : ℕ) (hk : k < 8) : BitVec.toNat (Scalar.indexCast (Scf.iv 0#32 1#32 k)) = k := by
  interval_cases k <;> rfl

section
variable (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
  (X4 : BufTy.Contents (Elt Ideal) arg4.view.ty) (X5 : BufTy.Contents (Elt Ideal) arg5.view.ty)

/-- A trip's rows of means. -/
theorem trip_km (k : Fin k0_t1_loop.trips) : View.PiecesOf (kmG (arg4.view.read (Elt Ideal) X4)) (tripL_k0_t1 (F := Ideal) Variants.none c none i arg3 harg3 arg4 harg4 arg5 harg5 arg6 harg6 arg7 harg7 arg8 harg8 arg9 harg9 arg10 harg10 hc0 X4 X5 k).1 := by
  have hk : k.val < 8 := Nat.lt_of_lt_of_le k.isLt k0_t1_abs.2.1
  unfold tripL_k0_t1 trip_k0_t1
  dsimp only
  sl_unfold_words
  refine ⟨km_piece _ 3 (4 * k.val + 3) (by omega) (by omega) _ (congrArg (fun z => ![3, z, 0]) (blk_at k.val 3 hk (by omega))) _ fun d => ?_,
    km_piece _ 2 (4 * k.val + 3) (by omega) (by omega) _ (congrArg (fun z => ![2, z, 0]) (blk_at k.val 3 hk (by omega))) _ fun d => ?_,
    km_piece _ 1 (4 * k.val + 3) (by omega) (by omega) _ (congrArg (fun z => ![1, z, 0]) (blk_at k.val 3 hk (by omega))) _ fun d => ?_,
    km_piece _ 0 (4 * k.val + 3) (by omega) (by omega) _ (congrArg (fun z => ![0, z, 0]) (blk_at k.val 3 hk (by omega))) _ fun d => ?_,
    km_piece _ 3 (4 * k.val + 2) (by omega) (by omega) _ (congrArg (fun z => ![3, z, 0]) (blk_at k.val 2 hk (by omega))) _ fun d => ?_,
    km_piece _ 2 (4 * k.val + 2) (by omega) (by omega) _ (congrArg (fun z => ![2, z, 0]) (blk_at k.val 2 hk (by omega))) _ fun d => ?_,
    km_piece _ 1 (4 * k.val + 2) (by omega) (by omega) _ (congrArg (fun z => ![1, z, 0]) (blk_at k.val 2 hk (by omega))) _ fun d => ?_,
    km_piece _ 0 (4 * k.val + 2) (by omega) (by omega) _ (congrArg (fun z => ![0, z, 0]) (blk_at k.val 2 hk (by omega))) _ fun d => ?_,
    km_piece _ 3 (4 * k.val + 1) (by omega) (by omega) _ (congrArg (fun z => ![3, z, 0]) (blk_at k.val 1 hk (by omega))) _ fun d => ?_,
    km_piece _ 2 (4 * k.val + 1) (by omega) (by omega) _ (congrArg (fun z => ![2, z, 0]) (blk_at k.val 1 hk (by omega))) _ fun d => ?_,
    km_piece _ 1 (4 * k.val + 1) (by omega) (by omega) _ (congrArg (fun z => ![1, z, 0]) (blk_at k.val 1 hk (by omega))) _ fun d => ?_,
    km_piece _ 0 (4 * k.val + 1) (by omega) (by omega) _ (congrArg (fun z => ![0, z, 0]) (blk_at k.val 1 hk (by omega))) _ fun d => ?_,
    km_piece _ 3 (4 * k.val + 0) (by omega) (by omega) _ (congrArg (fun z => ![3, z, 0]) (blk_at k.val 0 hk (by omega))) _ fun d => ?_,
    km_piece _ 2 (4 * k.val + 0) (by omega) (by omega) _ (congrArg (fun z => ![2, z, 0]) (blk_at k.val 0 hk (by omega))) _ fun d => ?_,
    km_piece _ 1 (4 * k.val + 0) (by omega) (by omega) _ (congrArg (fun z => ![1, z, 0]) (blk_at k.val 0 hk (by omega))) _ fun d => ?_,
    km_piece _ 0 (4 * k.val + 0) (by omega) (by omega) _ (congrArg (fun z => ![0, z, 0]) (blk_at k.val 0 hk (by omega))) _ fun d => ?_, trivial⟩
  all_goals
    simp only [View.readAt_eq_ld]
    unfold_payloads
    pointwise
    exact congrArg (· * Ideal.ofBits FTy.f32 998244352#32) (Finset.sum_congr rfl fun x _ => congrArg (arg4.view.read (Elt Ideal) X4) (keys_at _ _ _ _ _ _ _ _ (congrArg (· + x.val) (row_at k.val _ hk (by omega))) (by omega)))

/-- A trip's blocks of values, and their ones. -/
theorem trip_vt (k : Fin k0_t1_loop.trips) : View.PiecesOf (vtG (arg5.view.read (Elt Ideal) X5)) (tripL_k0_t1 (F := Ideal) Variants.none c none i arg3 harg3 arg4 harg4 arg5 harg5 arg6 harg6 arg7 harg7 arg8 harg8 arg9 harg9 arg10 harg10 hc0 X4 X5 k).2 := by
  have hk : k.val < 8 := Nat.lt_of_lt_of_le k.isLt k0_t1_abs.2.1
  unfold tripL_k0_t1 trip_k0_t1
  dsimp only
  sl_unfold_words
  refine ⟨one_piece _ 3 k.val _ (congrArg (fun z => ![3, z, 128, 0]) (grp_at k.val hk)) (by omega) (by omega) _ fun d r => ?_,
    one_piece _ 2 k.val _ (congrArg (fun z => ![2, z, 128, 0]) (grp_at k.val hk)) (by omega) (by omega) _ fun d r => ?_,
    one_piece _ 1 k.val _ (congrArg (fun z => ![1, z, 128, 0]) (grp_at k.val hk)) (by omega) (by omega) _ fun d r => ?_,
    one_piece _ 0 k.val _ (congrArg (fun z => ![0, z, 128, 0]) (grp_at k.val hk)) (by omega) (by omega) _ fun d r => ?_,
    vt_piece _ 3 k.val 3 (by omega) (by omega) (by omega) _ (congrArg (fun z => ![3, z, 0, 768]) (grp_at k.val hk)) _ fun d r => ?_,
    vt_piece _ 2 k.val 3 (by omega) (by omega) (by omega) _ (congrArg (fun z => ![2, z, 0, 768]) (grp_at k.val hk)) _ fun d r => ?_,
    vt_piece _ 1 k.val 3 (by omega) (by omega) (by omega) _ (congrArg (fun z => ![1, z, 0, 768]) (grp_at k.val hk)) _ fun d r => ?_,
    vt_piece _ 0 k.val 3 (by omega) (by omega) (by omega) _ (congrArg (fun z => ![0, z, 0, 768]) (grp_at k.val hk)) _ fun d r => ?_,
    vt_piece _ 3 k.val 2 (by omega) (by omega) (by omega) _ (congrArg (fun z => ![3, z, 0, 512]) (grp_at k.val hk)) _ fun d r => ?_,
    vt_piece _ 2 k.val 2 (by omega) (by omega) (by omega) _ (congrArg (fun z => ![2, z, 0, 512]) (grp_at k.val hk)) _ fun d r => ?_,
    vt_piece _ 1 k.val 2 (by omega) (by omega) (by omega) _ (congrArg (fun z => ![1, z, 0, 512]) (grp_at k.val hk)) _ fun d r => ?_,
    vt_piece _ 0 k.val 2 (by omega) (by omega) (by omega) _ (congrArg (fun z => ![0, z, 0, 512]) (grp_at k.val hk)) _ fun d r => ?_,
    vt_piece _ 3 k.val 1 (by omega) (by omega) (by omega) _ (congrArg (fun z => ![3, z, 0, 256]) (grp_at k.val hk)) _ fun d r => ?_,
    vt_piece _ 2 k.val 1 (by omega) (by omega) (by omega) _ (congrArg (fun z => ![2, z, 0, 256]) (grp_at k.val hk)) _ fun d r => ?_,
    vt_piece _ 1 k.val 1 (by omega) (by omega) (by omega) _ (congrArg (fun z => ![1, z, 0, 256]) (grp_at k.val hk)) _ fun d r => ?_,
    vt_piece _ 0 k.val 1 (by omega) (by omega) (by omega) _ (congrArg (fun z => ![0, z, 0, 256]) (grp_at k.val hk)) _ fun d r => ?_,
    vt_piece _ 3 k.val 0 (by omega) (by omega) (by omega) _ (congrArg (fun z => ![3, z, 0, 0]) (grp_at k.val hk)) _ fun d r => ?_,
    vt_piece _ 2 k.val 0 (by omega) (by omega) (by omega) _ (congrArg (fun z => ![2, z, 0, 0]) (grp_at k.val hk)) _ fun d r => ?_,
    vt_piece _ 1 k.val 0 (by omega) (by omega) (by omega) _ (congrArg (fun z => ![1, z, 0, 0]) (grp_at k.val hk)) _ fun d r => ?_,
    vt_piece _ 0 k.val 0 (by omega) (by omega) (by omega) _ (congrArg (fun z => ![0, z, 0, 0]) (grp_at k.val hk)) _ fun d r => ?_, trivial⟩
  all_goals
    simp only [View.readAt_eq_ld]
    unfold_payloads
    pointwise
    try exact congrArg (arg5.view.read (Elt Ideal) X5) (keys_at _ _ _ _ _ _ _ _ ((congrArg (· + r.val) (row_at k.val _ hk (by omega))).trans (by omega)) (by omega))

/-- The pieces of all the trips. -/
theorem loop_pieces (n : ℕ) (hn : n ≤ k0_t1_loop.trips) : View.PiecesOf (kmG (arg4.view.read (Elt Ideal) X4)) (pb_k0_t1 (F := Ideal) Variants.none c none i arg3 harg3 arg4 harg4 arg5 harg5 arg6 harg6 arg7 harg7 arg8 harg8 arg9 harg9 arg10 harg10 hc0 X4 X5 n).1 ∧ View.PiecesOf (vtG (arg5.view.read (Elt Ideal) X5)) (pb_k0_t1 (F := Ideal) Variants.none c none i arg3 harg3 arg4 harg4 arg5 harg5 arg6 harg6 arg7 harg7 arg8 harg8 arg9 harg9 arg10 harg10 hc0 X4 X5 n).2 := by
  induction n with
  | zero => exact ⟨trivial, trivial⟩
  | succ n ih =>
    have e := pb_k0_t1_succ (F := Ideal) Variants.none c none i arg3 harg3 arg4 harg4 arg5 harg5 arg6 harg6 arg7 harg7 arg8 harg8 arg9 harg9 arg10 harg10 hc0 X4 X5 ⟨n, hn⟩
    have ih' := ih (by omega)
    have t := trip_km c i arg3 harg3 arg4 harg4 arg5 harg5 arg6 harg6 arg7 harg7 arg8 harg8 arg9 harg9 arg10 harg10 hc0 X4 X5 ⟨n, hn⟩
    have t2 := trip_vt c i arg3 harg3 arg4 harg4 arg5 harg5 arg6 harg6 arg7 harg7 arg8 harg8 arg9 harg9 arg10 harg10 hc0 X4 X5 ⟨n, hn⟩
    rw [e]
    exact ⟨pieces_append t ih'.1, pieces_append t2 ih'.2⟩

end
end Cert.KernelIdeal.Moba
end
-- ==== Proof.MobaCarry.lean ====
/-
  What the attention call's carried scratch holds at every point: the means and the values of the point's own sequence and heads.
-/
module

public import proofs.«01_k».proof.Proof.MobaFill
public import proofs.«01_k».proof.Proof.MobaBlocks

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

section
variable (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec Ideal S1x256x512 .bf16) (x1 : Vec Ideal S1x8192x512 .bf16) (x2 : Vec Ideal S1x8192x512 .bf16)

/-- The first point of a sequence leaves the means of its keys. -/
theorem left_km : sout0_A_0 c i arg3 harg3 arg4 harg4 arg5 harg5 arg6 harg6 arg7 harg7 arg8 harg8 arg9 harg9 arg10 harg10 hc0 x0 x1 x2 = kmG x1 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2)]
  have hp := (loop_pieces c i arg3 harg3 arg4 harg4 arg5 harg5 arg6 harg6 arg7 harg7 arg8 harg8 arg9 harg9 arg10 harg10 hc0 (harg4.unread x1) (harg5.unread x2) k0_t1_loop.trips le_rfl).1
  rw [harg4.read_unread] at hp
  funext y
  exact View.canon_append_of_piecesOf (kmG x1) _ (pb_k0_t1 (F := Ideal) Variants.none c none i arg3 harg3 arg4 harg4 arg5 harg5 arg6 harg6 arg7 harg7 arg8 harg8 arg9 harg9 arg10 harg10 hc0 (harg4.unread x1) (harg5.unread x2) k0_t1_loop.trips).1 hp y (View.cover_of_tiledL (pb_k0_t1 (F := Ideal) Variants.none c none i arg3 harg3 arg4 harg4 arg5 harg5 arg6 harg6 arg7 harg7 arg8 harg8 arg9 harg9 arg10 harg10 hc0 (harg4.unread x1) (harg5.unread x2) k0_t1_loop.trips).1 S1x1x128.size (by sl_kernel_rfl) y)

/-- The first point of a sequence leaves the values by columns, with ones below. -/
theorem left_vt : sout0_A_1 c i arg3 harg3 arg4 harg4 arg5 harg5 arg6 harg6 arg7 harg7 arg8 harg8 arg9 harg9 arg10 harg10 hc0 x0 x1 x2 = vtG x2 := by
  unfold sout0_A_1
  have hp := (loop_pieces c i arg3 harg3 arg4 harg4 arg5 harg5 arg6 harg6 arg7 harg7 arg8 harg8 arg9 harg9 arg10 harg10 hc0 (harg4.unread x1) (harg5.unread x2) k0_t1_loop.trips le_rfl).2
  rw [harg5.read_unread] at hp
  funext y
  exact View.read_writes_apply_of_pieces _ _ (vtG x2) (kernelRun0_A c i arg3 harg3 arg4 harg4 arg5 harg5 arg6 harg6 arg7 harg7 arg8 harg8 arg9 harg9 arg10 harg10 hc0 x0 x1 x2).2.2.1 (View.PiecesOf.mem hp) y (scover0_A_1 c i arg3 harg3 arg4 harg4 arg5 harg5 arg6 harg6 arg7 harg7 arg8 harg8 arg9 harg9 arg10 harg10 hc0 x0 x1 x2 y)

end

variable (m : (ℓ : Loc nD τ sig) → Buf (Elt Ideal) ℓ)

/-- The points of the grid. -/
theorem lt_N (t : Fin cfg0.N) : t.val < 128 := lt_of_lt_of_eq t.isLt N_0

/-- The queries' block at each point. -/
theorem idx_q : ∀ t : Fin cfg0.N, win0_0.index t (0 : Fin 3) = t.val / 64 ∧ win0_0.index t (1 : Fin 3) = t.val % 32 ∧ win0_0.index t (2 : Fin 3) = 8 + t.val / 32 % 2 :=
  (by decide +kernel : ∀ t : Fin grid0.N, _)

/-- The keys' block at each point. -/
theorem idx_k : ∀ t : Fin cfg0.N, win0_1.index t (0 : Fin 3) = t.val / 64 ∧ win0_1.index t (1 : Fin 3) = 0 ∧ win0_1.index t (2 : Fin 3) = 10 + t.val / 32 % 2 :=
  (by decide +kernel : ∀ t : Fin grid0.N, _)

/-- The values' block at each point. -/
theorem idx_v : ∀ t : Fin cfg0.N, win0_2.index t (0 : Fin 3) = t.val / 64 ∧ win0_2.index t (1 : Fin 3) = 0 ∧ win0_2.index t (2 : Fin 3) = 12 + t.val / 32 % 2 :=
  (by decide +kernel : ∀ t : Fin grid0.N, _)

/-- A point's queries, of the launched array. -/
theorem iblk_q (c : Dev nD) (t : Fin cfg0.N) (r : Fin 256) (e : Fin 512) :
    (iblk m c 0 t : Vec Ideal S1x256x512 .bf16) (ix3 0 r e) = m ((c : Thread nD τ).loc main_arg0) (ix3 ⟨t.val / 64, by have := lt_N t; omega⟩ ⟨t.val % 32 * 256 + r.val, by have := lt_N t; omega⟩ ⟨4096 + 512 * (t.val / 32 % 2) + e.val, by omega⟩) := by
  obtain ⟨e0, e1, e2⟩ := idx_q t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * 0 = t.val / 64; rw [e0]; omega
  | ⟨1, _⟩ => show win0_0.index t (1 : Fin 3) * 256 + 1 * r.val = t.val % 32 * 256 + r.val; rw [e1]; omega
  | ⟨2, _⟩ => show win0_0.index t (2 : Fin 3) * 512 + 1 * e.val = 4096 + 512 * (t.val / 32 % 2) + e.val; rw [e2]; omega

/-- A point's keys, of the launched array. -/
theorem iblk_k (c : Dev nD) (t : Fin cfg0.N) (r : Fin 8192) (e : Fin 512) :
    (iblk m c 1 t : Vec Ideal S1x8192x512 .bf16) (ix3 0 r e) = m ((c : Thread nD τ).loc main_arg0) (ix3 ⟨t.val / 64, by have := lt_N t; omega⟩ ⟨r.val, by have := lt_N t; omega⟩ ⟨5120 + 512 * (t.val / 32 % 2) + e.val, by omega⟩) := by
  obtain ⟨e0, e1, e2⟩ := idx_k t
  unfold iblk
  rw [View.read_apply]
  show V m c main_arg0 _ = m (c.tc.loc main_arg0) _
  rw [V_main_arg0]
  congr 1
  funext a
  apply Fin.ext
  match a with
  | ⟨0, _⟩ => show win0_1.index t (0 : Fin 3) * 1 + 1 * 0 = t.val / 64; rw [e0]; omega
  | ⟨1, _⟩ => show win0_1.index t (1 : Fin 3) * 8192 + 1 * r.val = r.val; rw [e1]; omega
  | ⟨2, _⟩ => show win0_1.index t (2 : Fin 3) * 512 + 1 * e.val = 5120 + 512 * (t.val / 32 % 2) + e.val; rw [e2]; omega

/-- A point's values, of the launched array. -/
theorem iblk_v (c : Dev nD) (t : Fin cfg0.N) (r : Fin 8192) (e : Fin 512) :
    (iblk m c 2 t : Vec Ideal S1x8192x512 .bf16) (ix3 0 r e) = m ((c : Thread nD τ).loc main_arg0) (ix3 ⟨t.val / 64, by have := lt_N t; omega⟩ ⟨r.val, by have := lt_N t; omega⟩ ⟨6144 + 512 * (t.val / 32 % 2) + e.val, by omega⟩) := by
  obtain ⟨e0, e1, e2⟩ := idx_v t
  unfold iblk
  rw [View.read_apply]
  show V m c main_arg0 _ = m (c.tc.loc main_arg0) _
  rw [V_main_arg0]
  congr 1
  funext a
  apply Fin.ext
  match a with
  | ⟨0, _⟩ => show win0_2.index t (0 : Fin 3) * 1 + 1 * 0 = t.val / 64; rw [e0]; omega
  | ⟨1, _⟩ => show win0_2.index t (1 : Fin 3) * 8192 + 1 * r.val = r.val; rw [e1]; omega
  | ⟨2, _⟩ => show win0_2.index t (2 : Fin 3) * 512 + 1 * e.val = 6144 + 512 * (t.val / 32 % 2) + e.val; rw [e2]; omega

/-- The keys of a point are those of the point before, in one sequence and heads. -/
theorem iblk1_succ (c : Dev nD) (n : ℕ) (hn : n + 1 < cfg0.N) (h : ¬(n + 1) % 32 = 0) : iblk m c 1 ⟨n + 1, hn⟩ = iblk m c 1 ⟨n, Nat.lt_of_succ_lt hn⟩ := by
  funext y
  have hy : y = (ix3 0 (y 1) (y 2) : S1x8192x512.Idx) := by
    refine (eq_ix3 y).trans ?_
    congr 1 <;> exact Subsingleton.elim _ _
  refine (congrArg (iblk m c 1 ⟨n + 1, hn⟩) hy).trans (((iblk_k m c ⟨n + 1, hn⟩ (y 1) (y 2)).trans ?_).trans ((congrArg (iblk m c 1 ⟨n, Nat.lt_of_succ_lt hn⟩) hy).trans (iblk_k m c ⟨n, Nat.lt_of_succ_lt hn⟩ (y 1) (y 2))).symm)
  refine congrArg (m ((c : Thread nD τ).loc main_arg0)) ?_
  congr 1 <;> apply Fin.ext <;> dsimp only <;> omega

/-- The values of a point are those of the point before, in one sequence and heads. -/
theorem iblk2_succ (c : Dev nD) (n : ℕ) (hn : n + 1 < cfg0.N) (h : ¬(n + 1) % 32 = 0) : iblk m c 2 ⟨n + 1, hn⟩ = iblk m c 2 ⟨n, Nat.lt_of_succ_lt hn⟩ := by
  funext y
  have hy : y = (ix3 0 (y 1) (y 2) : S1x8192x512.Idx) := by
    refine (eq_ix3 y).trans ?_
    congr 1 <;> exact Subsingleton.elim _ _
  refine (congrArg (iblk m c 2 ⟨n + 1, hn⟩) hy).trans (((iblk_v m c ⟨n + 1, hn⟩ (y 1) (y 2)).trans ?_).trans ((congrArg (iblk m c 2 ⟨n, Nat.lt_of_succ_lt hn⟩) hy).trans (iblk_v m c ⟨n, Nat.lt_of_succ_lt hn⟩ (y 1) (y 2))).symm)
  refine congrArg (m ((c : Thread nD τ).loc main_arg0)) ?_
  congr 1 <;> apply Fin.ext <;> dsimp only <;> omega

/-- What the scratch holds after every point. -/
theorem carried (c : Dev nD) (n : ℕ) (hn : n < cfg0.N) : (outsAt0 m c n hn).2 = (kmG (iblk m c 1 ⟨n, hn⟩), vtG (iblk m c 2 ⟨n, hn⟩)) := by
  have first : ∀ (k : ℕ) (hk : k < cfg0.N), k % 32 = 0 → (outsAt0 m c k hk).2 = (kmG (iblk m c 1 ⟨k, hk⟩), vtG (iblk m c 2 ⟨k, hk⟩)) := fun k hk h => by
    refine (congrArg Prod.snd (outsAt0_A m c ⟨k, hk⟩ h)).trans ?_
    exact congrArg₂ Prod.mk (left_km _ _ _ _ _ _ _ _ _ _ _ _ _ _ _ _ _ _ _ _ _ _) (left_vt _ _ _ _ _ _ _ _ _ _ _ _ _ _ _ _ _ _ _ _ _ _)
  induction n with
  | zero => exact first 0 hn rfl
  | succ n ih =>
    by_cases h : (n + 1) % 32 = 0
    · exact first _ hn h
    · refine (congrArg Prod.snd (outsAt0_B m c ⟨n + 1, hn⟩ h)).trans ?_
      rw [iblk1_succ m c n hn h, iblk2_succ m c n hn h, ← ih (Nat.lt_of_succ_lt hn)]
      rfl

end Cert.KernelIdeal.Moba
end
-- ==== Proof.MobaOut.lean ====
/-
  The attention call's output block: of every head the sums after the loop, divided by the row of ones.
-/
module

public import proofs.«01_k».proof.Proof.MobaCarry

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

/-- The groups of blocks that the block `j` attends to. -/
theorem trips2 (i : grid0.Coords) : (k0_t2_loop i).trips = ((i 2).val + 3) / 4 := by
  have hj : (i 2).val < 32 := (i 2).isLt
  unfold k0_t2_loop Scf.Loop.trips
  dsimp only
  generalize (i 2).val = j at hj ⊢
  interval_cases j <;> rfl

/-- The remainder loop runs no trip. -/
theorem trips3 (i : grid0.Coords) : (k0_t3_loop i).trips = 0 := by
  have hj : (i 2).val < 32 := (i 2).isLt
  unfold k0_t3_loop Scf.Loop.trips
  dsimp only
  generalize (i 2).val = j at hj ⊢
  interval_cases j <;> rfl

/-- No trip of the remainder loop changes nothing. -/
theorem rest_zero (𝒱 : Variants) (c : Dev nD) (bd : Option 𝒱.V) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (v6 : FVec Ideal S256x128 .bf16) (v8 : FVec Ideal S256x128 .bf16) (v10 : FVec Ideal S256x128 .bf16) (v12 : FVec Ideal S256x128 .bf16) (v329 : FVec Ideal S1x256 .f32) (v339 : FVec Ideal S144x256 .f32) (v344 : FVec Ideal S1x256 .f32) (v354 : FVec Ideal S144x256 .f32) (v359 : FVec Ideal S1x256 .f32) (v369 : FVec Ideal S144x256 .f32) (v374 : FVec Ideal S1x256 .f32) (v384 : FVec Ideal S144x256 .f32) (v385 : BitVec 32) (c1_i32_186 : BitVec 32) (v408 : BitVec 32) (X_arg4 : BufTy.Contents (Elt Ideal) arg4.view.ty) (X_arg8 : BufTy.Contents (Elt Ideal) arg8.view.ty) (X_arg9 : BufTy.Contents (Elt Ideal) arg9.view.ty) (G_arg10 : BufTy.Contents (Elt Ideal) arg10.view.ty) (init : FVec Ideal S1x256 .f32 × FVec Ideal S144x256 .f32 × FVec Ideal S1x256 .f32 × FVec Ideal S144x256 .f32 × FVec Ideal S1x256 .f32 × FVec Ideal S144x256 .f32 × FVec Ideal S1x256 .f32 × FVec Ideal S144x256 .f32) (n : ℕ) (hn : n = 0) : (st_k0_t3 (F := Ideal) 𝒱 c bd i arg3 harg3 arg4 harg4 arg5 harg5 arg6 harg6 arg7 harg7 arg8 harg8 arg9 harg9 arg10 harg10 v6 v8 v10 v12 v329 v339 v344 v354 v359 v369 v374 v384 v385 c1_i32_186 v408 X_arg4 X_arg8 X_arg9 G_arg10 init n).1 = init := by
  subst hn
  rfl

/-- No trip of the loop changes nothing. -/
theorem loop_zero (𝒱 : Variants) (c : Dev nD) (bd : Option 𝒱.V) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (v6 : FVec Ideal S256x128 .bf16) (v8 : FVec Ideal S256x128 .bf16) (v10 : FVec Ideal S256x128 .bf16) (v12 : FVec Ideal S256x128 .bf16) (v329 : FVec Ideal S1x256 .f32) (v339 : FVec Ideal S144x256 .f32) (v344 : FVec Ideal S1x256 .f32) (v354 : FVec Ideal S144x256 .f32) (v359 : FVec Ideal S1x256 .f32) (v369 : FVec Ideal S144x256 .f32) (v374 : FVec Ideal S1x256 .f32) (v384 : FVec Ideal S144x256 .f32) (v385 : BitVec 32) (c1_i32_186 : BitVec 32) (X_arg4 : BufTy.Contents (Elt Ideal) arg4.view.ty) (X_arg8 : BufTy.Contents (Elt Ideal) arg8.view.ty) (X_arg9 : BufTy.Contents (Elt Ideal) arg9.view.ty) (G_arg10 : BufTy.Contents (Elt Ideal) arg10.view.ty) (init : FVec Ideal S1x256 .f32 × FVec Ideal S144x256 .f32 × FVec Ideal S1x256 .f32 × FVec Ideal S144x256 .f32 × FVec Ideal S1x256 .f32 × FVec Ideal S144x256 .f32 × FVec Ideal S1x256 .f32 × FVec Ideal S144x256 .f32) (n : ℕ) (hn : n = 0) : (st_k0_t2 (F := Ideal) 𝒱 c bd i arg3 harg3 arg4 harg4 arg5 harg5 arg6 harg6 arg7 harg7 arg8 harg8 arg9 harg9 arg10 harg10 v6 v8 v10 v12 v329 v339 v344 v354 v359 v369 v374 v384 v385 c1_i32_186 X_arg4 X_arg8 X_arg9 G_arg10 init n).1 = init := by
  subst hn
  rfl

/-- The output block, of every head's sums. -/
def outG (a : Fin 4 → FVec Ideal S144x256 .f32) (y : S1x256x512.Idx) : EReal :=
  Ideal.div (a ⟨(y 2).val / 128, by have : (y 2).val < 512 := (y 2).isLt; omega⟩ (ix2 ⟨(y 2).val % 128, by omega⟩ (y 1)))
    (a ⟨(y 2).val / 128, by have : (y 2).val < 512 := (y 2).isLt; omega⟩ (ix2 ⟨128, by omega⟩ (y 1)))

/-- A head's part is inside the block. -/
theorem out_inb (h : ℕ) (hh : h < 4) (off : Fin 3 → ℕ) (e : off = ![0, 0, 128 * h]) (a : Fin 3) : off a + (![1, 256, 128] : Fin 3 → ℕ) a ≤ S1x256x512.size a := by
  subst e
  match a with
  | 0 => exact le_refl 1
  | 1 => exact le_refl 256
  | 2 => show 128 * h + 128 ≤ 512; omega

/-- A head's stored part. -/
theorem out_piece (a : Fin 4 → FVec Ideal S144x256 .f32) (h : ℕ) (hh : h < 4) (off : Fin 3 → ℕ) (e : off = ![0, 0, 128 * h]) (w : S1x256x128.Idx → EReal)
    (hw : ∀ (l : Fin 256) (d : Fin 128), w (ix3 0 l d) = Ideal.div (a ⟨h, hh⟩ (ix2 ⟨d.val, by omega⟩ l)) (a ⟨h, hh⟩ (ix2 ⟨128, by omega⟩ l))) : ∀ x, w x = outG a ((Rect.unit (s := S1x256x512) off ![1, 256, 128] (out_inb h hh off e)).emb x) := by
  subst e
  intro x
  have hx : x = (ix3 0 (x 1) (x 2) : S1x256x128.Idx) := by
    refine (eq_ix3 x).trans ?_
    congr 1 <;> exact Subsingleton.elim _ _
  refine (congrArg w hx).trans ((hw (x 1) (x 2)).trans ?_)
  have h2 : (x 2).val < 128 := (x 2).isLt
  have e1 : ((Rect.unit (s := S1x256x512) ![0, 0, 128 * h] ![1, 256, 128] (out_inb h hh _ rfl)).emb x) 1 = x 1 := by
    apply Fin.ext; show 0 + 1 * (x 1).val = (x 1).val; omega
  have e2 : (((Rect.unit (s := S1x256x512) ![0, 0, 128 * h] ![1, 256, 128] (out_inb h hh _ rfl)).emb x) 2).val = 128 * h + (x 2).val := by show 128 * h + 1 * (x 2).val = _; omega
  unfold outG
  rw [e1]
  have f1 : (⟨h, hh⟩ : Fin 4) = ⟨(((Rect.unit (s := S1x256x512) ![0, 0, 128 * h] ![1, 256, 128] (out_inb h hh _ rfl)).emb x) 2).val / 128, by omega⟩ := by apply Fin.ext; show h = _ / 128; omega
  have f2 : (⟨(x 2).val, by omega⟩ : Fin 144) = ⟨(((Rect.unit (s := S1x256x512) ![0, 0, 128 * h] ![1, 256, 128] (out_inb h hh _ rfl)).emb x) 2).val % 128, by omega⟩ := by apply Fin.ext; show (x 2).val = _ % 128; omega
  rw [← f1, ← f2]

section
variable (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : ¬cond0_0 i)
    (x0 : Vec Ideal S1x256x512 .bf16) (x1 : Vec Ideal S1x8192x512 .bf16) (x2 : Vec Ideal S1x8192x512 .bf16) (xs0 : Vec Ideal S4x32x128 .f32) (xs1 : Vec Ideal S4x8x144x1024 .bf16)

/-- What the loop carries at its end. -/
def accB : Carry := (st_k0_t2 (F := Ideal) Variants.none c none i arg3 harg3 arg4 harg4 arg5 harg5 arg6 harg6 arg7 harg7 arg8 harg8 arg9 harg9 arg10 harg10 (kernelRun0_B.sl.r c arg3 harg3 x0) (kernelRun0_B.sl.r_1 c arg3 harg3 x0) (kernelRun0_B.sl.r_2 c arg3 harg3 x0) (kernelRun0_B.sl.r_3 c arg3 harg3 x0) (kernelRun0_B.sl.r_28 c i arg3 harg3 arg4 harg4 x0 x1) (kernelRun0_B.sl.r_29 c i arg3 harg3 arg4 harg4 arg5 harg5 x0 x1 x2) (kernelRun0_B.sl.r_30 c i arg3 harg3 arg4 harg4 x0 x1) (kernelRun0_B.sl.r_31 c i arg3 harg3 arg4 harg4 arg5 harg5 x0 x1 x2) (kernelRun0_B.sl.r_32 c i arg3 harg3 arg4 harg4 x0 x1) (kernelRun0_B.sl.r_33 c i arg3 harg3 arg4 harg4 arg5 harg5 x0 x1 x2) (kernelRun0_B.sl.r_34 c i arg3 harg3 arg4 harg4 x0 x1) (kernelRun0_B.sl.r_35 c i arg3 harg3 arg4 harg4 arg5 harg5 x0 x1 x2) (kernelRun0_B.sl.v385 i) 1#32 (harg4.unread x1) (harg8.unread xs1) (arg9.view.writes (Elt Ideal) arg9.view.junk (kernelRun0_B.sl.HS2_4 c i arg3 harg3 arg7 harg7 x0 xs0)) (arg10.view.writes (Elt Ideal) arg10.view.junk (kernelRun0_B.sl.HS3_4 c arg3 harg3 arg4 harg4 x0 x1)) (kernelRun0_B.sl.r_28 c i arg3 harg3 arg4 harg4 x0 x1, kernelRun0_B.sl.r_29 c i arg3 harg3 arg4 harg4 arg5 harg5 x0 x1 x2, kernelRun0_B.sl.r_30 c i arg3 harg3 arg4 harg4 x0 x1, kernelRun0_B.sl.r_31 c i arg3 harg3 arg4 harg4 arg5 harg5 x0 x1 x2, kernelRun0_B.sl.r_32 c i arg3 harg3 arg4 harg4 x0 x1, kernelRun0_B.sl.r_33 c i arg3 harg3 arg4 harg4 arg5 harg5 x0 x1 x2, kernelRun0_B.sl.r_34 c i arg3 harg3 arg4 harg4 x0 x1, kernelRun0_B.sl.r_35 c i arg3 harg3 arg4 harg4 arg5 harg5 x0 x1 x2) (k0_t2_loop i).trips).1

/-- The sums that head 3's output is made of. -/
theorem acc_B_3 : kernelRun0_B.sl.r_37 c i arg3 harg3 arg4 harg4 arg5 harg5 arg6 harg6 arg7 harg7 arg8 harg8 arg9 harg9 arg10 harg10 x0 x1 x2 xs0 xs1 = aOf 3 (accB c i arg3 harg3 arg4 harg4 arg5 harg5  arg6 harg6 arg7 harg7 arg8 harg8 arg9 harg9 arg10 harg10 x0 x1 x2 xs0 xs1) := by
  unfold kernelRun0_B.sl.r_37
  rw [show Scf.trips (k0_t3_loop i).lb (k0_t3_loop i).ub (k0_t3_loop i).st = 0 from trips3 i]
  rfl

/-- The sums that head 2's output is made of. -/
theorem acc_B_2 : kernelRun0_B.sl.r_36 c i arg3 harg3 arg4 harg4 arg5 harg5 arg6 harg6 arg7 harg7 arg8 harg8 arg9 harg9 arg10 harg10 x0 x1 x2 xs0 xs1 = aOf 2 (accB c i arg3 harg3 arg4 harg4 arg5 harg5 arg6 harg6 arg7 harg7 arg8 harg8 arg9 harg9 arg10 harg10 x0 x1 x2 xs0 xs1) := by
  unfold kernelRun0_B.sl.r_36
  rw [show Scf.trips (k0_t3_loop i).lb (k0_t3_loop i).ub (k0_t3_loop i).st = 0 from trips3 i]
  rfl

/-- The sums that head 1's output is made of. -/
theorem acc_B_1 : kernelRun0_B.sl.r_38 c i arg3 harg3 arg4 harg4 arg5 harg5 arg6 harg6 arg7 harg7 arg8 harg8 arg9 harg9 arg10 harg10 x0 x1 x2 xs0 xs1 = k0_pay212 (aOf 1 (accB c i arg3 harg3 arg4 harg4 arg5 harg5 arg6 harg6 arg7 harg7 arg8 harg8 arg9 harg9 arg10 harg10 x0 x1 x2 xs0 xs1)) := by
  unfold kernelRun0_B.sl.r_38
  rw [show Scf.trips (k0_t3_loop i).lb (k0_t3_loop i).ub (k0_t3_loop i).st = 0 from trips3 i]
  rfl

/-- The output block of a later point. -/
theorem out_B : out0_B_3 c i arg3 harg3 arg4 harg4 arg5 harg5 arg6 harg6 arg7 harg7 arg8 harg8 arg9 harg9 arg10 harg10 hc0 x0 x1 x2 xs0 xs1 = outG fun h => aOf h (accB c i arg3 harg3 arg4 harg4 arg5 harg5 arg6 harg6 arg7 harg7 arg8 harg8 arg9 harg9 arg10 harg10 x0 x1 x2 xs0 xs1) := by
  have hp : View.PiecesOf (outG fun h => aOf h (accB c i arg3 harg3 arg4 harg4 arg5 harg5 arg6 harg6 arg7 harg7 arg8 harg8 arg9 harg9 arg10 harg10 x0 x1 x2 xs0 xs1)) (kernelRun0_B c i arg3 harg3 arg4 harg4 arg5 harg5 arg6 harg6 arg7 harg7 arg8 harg8 arg9 harg9 arg10 harg10 hc0 x0 x1 x2 xs0 xs1).1 := by
    unfold kernelRun0_B
    dsimp only
    refine ⟨out_piece _ 3 (by omega) _ rfl _ fun l d => ?_, out_piece _ 2 (by omega) _ rfl _ fun l d => ?_, out_piece _ 1 (by omega) _ rfl _ fun l d => ?_, out_piece _ 0 (by omega) _ rfl _ fun l d => ?_, trivial⟩
    · rw [acc_B_3]
      pointwise [k0_pay3]
    · rw [acc_B_2]
      pointwise [k0_pay2]
    · rw [acc_B_1]
      pointwise [k0_pay1, k0_pay212]
    · refine (congrArg (fun z : Carry => k0_pay211 z.2.1 (ix3 0 l d)) (rest_zero _ _ _ _ _ _ _ _ _ _ _ _ _ _ _ _ _ _ _ _ _ _ _ _ _ _ _ _ _ _ _ _ _ _ _ _ _ _ _ _ _ (trips3 i))).trans ?_
      show k0_pay211 (aOf 0 (accB c i arg3 harg3 arg4 harg4 arg5 harg5  arg6 harg6 arg7 harg7 arg8 harg8 arg9 harg9 arg10 harg10 x0 x1 x2 xs0 xs1)) (ix3 0 l d) = _
      pointwise [k0_pay211]
  unfold out0_B_3
  funext y
  exact View.read_writes_apply_of_pieces _ _ _ (kernelRun0_B c i arg3 harg3 arg4 harg4 arg5 harg5 arg6 harg6 arg7 harg7 arg8 harg8 arg9 harg9 arg10 harg10 hc0 x0 x1 x2 xs0 xs1).1 (View.PiecesOf.mem hp) y (cover0_B_3 c i arg3 harg3 arg4 harg4 arg5 harg5 arg6 harg6 arg7 harg7 arg8 harg8 arg9 harg9 arg10 harg10 hc0 x0 x1 x2 xs0 xs1 y)

end
end Cert.KernelIdeal.Moba
end
-- ==== Proof.MobaOutA.lean ====
/-
  The attention call's output block at the first point of a sequence, where there is no earlier block.
-/
module

public import proofs.«01_k».proof.Proof.MobaOut

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

/-- Head 3's stored part at an element. -/
theorem pay3_at (A : FVec Ideal S144x256 .f32) (l : Fin 256) (d : Fin 128) : k0_pay3 A (ix3 0 l d) = Ideal.div (A (ix2 ⟨d.val, by omega⟩ l)) (A (ix2 ⟨128, by omega⟩ l)) := by
  pointwise [k0_pay3]

/-- Head 2's stored part at an element. -/
theorem pay2_at (A : FVec Ideal S144x256 .f32) (l : Fin 256) (d : Fin 128) : k0_pay2 A (ix3 0 l d) = Ideal.div (A (ix2 ⟨d.val, by omega⟩ l)) (A (ix2 ⟨128, by omega⟩ l)) := by
  pointwise [k0_pay2]

/-- Head 1's stored part at an element. -/
theorem pay1_at (A : FVec Ideal S144x256 .f32) (l : Fin 256) (d : Fin 128) : k0_pay1 (k0_pay212 A) (ix3 0 l d) = Ideal.div (A (ix2 ⟨d.val, by omega⟩ l)) (A (ix2 ⟨128, by omega⟩ l)) := by
  pointwise [k0_pay1, k0_pay212]

/-- Head 0's stored part at an element. -/
theorem pay0_at (A : FVec Ideal S144x256 .f32) (l : Fin 256) (d : Fin 128) : k0_pay211 A (ix3 0 l d) = Ideal.div (A (ix2 ⟨d.val, by omega⟩ l)) (A (ix2 ⟨128, by omega⟩ l)) := by
  pointwise [k0_pay211]

section
variable (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : cond0_0 i)
    (x0 : Vec Ideal S1x256x512 .bf16) (x1 : Vec Ideal S1x8192x512 .bf16) (x2 : Vec Ideal S1x8192x512 .bf16)

/-- What the loop carries at its start. -/
def accA : Carry := (kernelRun0_B.sl.r_28 c i arg3 harg3 arg4 harg4 x0 x1, kernelRun0_B.sl.r_29 c i arg3 harg3 arg4 harg4 arg5 harg5 x0 x1 x2, kernelRun0_B.sl.r_30 c i arg3 harg3 arg4 harg4 x0 x1, kernelRun0_B.sl.r_31 c i arg3 harg3 arg4 harg4 arg5 harg5 x0 x1 x2, kernelRun0_B.sl.r_32 c i arg3 harg3 arg4 harg4 x0 x1, kernelRun0_B.sl.r_33 c i arg3 harg3 arg4 harg4 arg5 harg5 x0 x1 x2, kernelRun0_B.sl.r_34 c i arg3 harg3 arg4 harg4 x0 x1, kernelRun0_B.sl.r_35 c i arg3 harg3 arg4 harg4 arg5 harg5 x0 x1 x2)

/-- The output block of a first point. -/
theorem out_A (hi : (i 2).val = 0) : out0_A_3 c i arg3 harg3 arg4 harg4 arg5 harg5 arg6 harg6 arg7 harg7 arg8 harg8 arg9 harg9 arg10 harg10 hc0 x0 x1 x2 = outG fun h => aOf h (accA c i arg3 harg3 arg4 harg4 arg5 harg5 x0 x1 x2) := by
  have z2 : (k0_t2_loop i).trips = 0 := by rw [trips2, hi]
  have hp : View.PiecesOf (outG fun h => aOf h (accA c i arg3 harg3 arg4 harg4 arg5 harg5 x0 x1 x2)) (kernelRun0_A c i arg3 harg3 arg4 harg4 arg5 harg5 arg6 harg6 arg7 harg7 arg8 harg8 arg9 harg9 arg10 harg10 hc0 x0 x1 x2).1 := by
    unfold kernelRun0_A
    dsimp only
    refine ⟨out_piece _ 3 (by omega) _ rfl _ fun l d => ?_, out_piece _ 2 (by omega) _ rfl _ fun l d => ?_, out_piece _ 1 (by omega) _ rfl _ fun l d => ?_, out_piece _ 0 (by omega) _ rfl _ fun l d => ?_, trivial⟩
    · dsimp only
      rw [show Scf.trips (k0_t3_loop i).lb (k0_t3_loop i).ub (k0_t3_loop i).st = 0 from trips3 i, show Scf.trips (k0_t2_loop i).lb (k0_t2_loop i).ub (k0_t2_loop i).st = 0 from z2]
      exact pay3_at _ l d
    · dsimp only
      rw [show Scf.trips (k0_t3_loop i).lb (k0_t3_loop i).ub (k0_t3_loop i).st = 0 from trips3 i, show Scf.trips (k0_t2_loop i).lb (k0_t2_loop i).ub (k0_t2_loop i).st = 0 from z2]
      exact pay2_at _ l d
    · dsimp only
      rw [show Scf.trips (k0_t3_loop i).lb (k0_t3_loop i).ub (k0_t3_loop i).st = 0 from trips3 i, show Scf.trips (k0_t2_loop i).lb (k0_t2_loop i).ub (k0_t2_loop i).st = 0 from z2]
      exact pay1_at _ l d
    · dsimp only
      rw [show Scf.trips (k0_t3_loop i).lb (k0_t3_loop i).ub (k0_t3_loop i).st = 0 from trips3 i, show Scf.trips (k0_t2_loop i).lb (k0_t2_loop i).ub (k0_t2_loop i).st = 0 from z2]
      exact pay0_at _ l d
  unfold out0_A_3
  funext y
  exact View.read_writes_apply_of_pieces _ _ _ (kernelRun0_A c i arg3 harg3 arg4 harg4 arg5 harg5 arg6 harg6 arg7 harg7 arg8 harg8 arg9 harg9 arg10 harg10 hc0 x0 x1 x2).1 (View.PiecesOf.mem hp) y (cover0_A_3 c i arg3 harg3 arg4 harg4 arg5 harg5 arg6 harg6 arg7 harg7 arg8 harg8 arg9 harg9 arg10 harg10 hc0 x0 x1 x2 y)

end
end Cert.KernelIdeal.Moba
end
-- ==== Proof.MobaMask.lean ====
/-
  The attention call's choice of blocks: three rounds, each of which takes the first of the past blocks that have the
  largest gate left, choose the past blocks that have fewer than three others ahead of them.
-/
module

public import proofs.«01_k».proof.Proof.MobaInit

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

/-- The gates, with minus infinity for a block that is not past. -/
def gPast (γ : Fin 32 → EReal) (j : ℕ) (n : Fin 32) : EReal :=
  Scalar.select (IntOp.cmpi .slt (BitVec.ofNat 32 n.val) (BitVec.ofNat 32 j)) (γ n) (Ideal.ofBits FTy.f32 4286578688#32)

/-- The first position of the largest gate, as a word. -/
def gFirst (g : Fin 32 → EReal) : BitVec 32 :=
  Finset.univ.fold IntOp.minsi (2147483647#32) fun x : Fin 32 =>
    if g x = Finset.univ.fold max (Ideal.ofBits FTy.f32 4286578688#32) g then BitVec.ofNat 32 x.val else 32#32

/-- The block taken in round `r`: none where there are not that many past blocks. -/
def gTake (j : ℕ) (r : BitVec 32) (g : Fin 32 → EReal) : BitVec 32 :=
  Scalar.select (Scalar.cmpi .sgt (BitVec.ofNat 32 j) r) (gFirst g) 4294967295#32

/-- The gates without a block taken. -/
def gCut (w : BitVec 32) (g : Fin 32 → EReal) (x : Fin 32) : EReal :=
  Scalar.select (IntOp.cmpi .eq (BitVec.ofNat 32 x.val) w) (Ideal.ofBits FTy.f32 4286578688#32) (g x)

/-- The mask of block `n` after three rounds. -/
def gMask (γ : Fin 32 → EReal) (j : ℕ) (n : Fin 32) : EReal :=
  Scalar.select (IntOp.cmpi .eq (BitVec.ofNat 32 n.val) (gTake j 2#32 (gCut (gTake j 1#32 (gCut (gTake j 0#32 (gPast γ j)) (gPast γ j))) (gCut (gTake j 0#32 (gPast γ j)) (gPast γ j))))) 0
    (Scalar.select (IntOp.cmpi .eq (BitVec.ofNat 32 n.val) (gTake j 1#32 (gCut (gTake j 0#32 (gPast γ j)) (gPast γ j)))) 0
      (Scalar.select (IntOp.cmpi .eq (BitVec.ofNat 32 n.val) (gTake j 0#32 (gPast γ j))) 0 ⊥))

section
variable (γ : Fin 32 → ℝ) (j : ℕ) (hj : j < 32)

/-- Block `m` is ahead of block `n`: a larger gate, or the same and an earlier block. -/
def Ahead (m n : Fin 32) : Prop := γ n < γ m ∨ (γ m = γ n ∧ m.val < n.val)

/-- Of two blocks one is ahead of the other. -/
theorem ahead_total (m n : Fin 32) (h : m ≠ n) : Ahead γ m n ∨ Ahead γ n m := by
  unfold Ahead
  have h' : m.val ≠ n.val := fun e => h (Fin.ext e)
  rcases lt_trichotomy (γ m) (γ n) with h1 | h1 | h1
  · exact Or.inr (Or.inl h1)
  · rcases Nat.lt_or_gt_of_ne h' with h2 | h2
    · exact Or.inl (Or.inr ⟨h1, h2⟩)
    · exact Or.inr (Or.inr ⟨h1.symm, h2⟩)
  · exact Or.inl (Or.inl h1)

/-- And not both. -/
theorem ahead_asymm (m n : Fin 32) (h : Ahead γ m n) : ¬ Ahead γ n m := by
  unfold Ahead at *
  rintro (h1 | ⟨h1, h2⟩) <;> rcases h with h3 | ⟨h3, h4⟩
  · exact lt_asymm h1 h3
  · exact absurd h3 (ne_of_lt h1)
  · exact absurd h1 (ne_of_lt h3)
  · omega

/-- The past blocks. -/
def past : Finset (Fin 32) := Finset.univ.filter fun n => n.val < j

/-- The past blocks ahead of block `n`. -/
def front (n : Fin 32) : Finset (Fin 32) := by
  classical exact (past j).filter fun m => Ahead γ m n

/-- The blocks chosen: the past ones with fewer than three ahead. -/
def Chosen (n : Fin 32) : Prop := n.val < j ∧ (front γ j n).card < 3

/-- Gates of a set of blocks, minus infinity elsewhere. -/
def only (S : Finset (Fin 32)) (n : Fin 32) : EReal := if n ∈ S then (γ n : EReal) else ⊥

/-- The signed minimum of words is the integers'. -/
theorem minsi_int (x y : BitVec 32) : (IntOp.minsi x y).toInt = min x.toInt y.toInt := by
  unfold IntOp.minsi
  by_cases h : x.toInt ≤ y.toInt
  · rw [min_eq_left h]
    have : BitVec.sle x y = true := by simpa [BitVec.sle] using h
    simp only [BitVec.sle, BitVec.slt, decide_eq_true_eq] at *
    split <;> first | rfl | omega
  · rw [min_eq_right (by omega)]
    simp only [BitVec.sle, BitVec.slt, decide_eq_true_eq] at *
    split <;> first | rfl | omega

/-- The smallest of words, as an integer. -/
theorem fold_minsi (f : Fin 32 → BitVec 32) :
    (Finset.univ.fold IntOp.minsi (2147483647#32) f).toInt = Finset.univ.fold min 2147483647 fun x => (f x).toInt :=
  (Finset.fold_hom (op := IntOp.minsi) (op' := min) (m := BitVec.toInt) (fun x y => minsi_int x y)).symm

/-- A round takes the block of a set that is ahead of the others. -/
theorem first_of (S : Finset (Fin 32)) (hS : S.Nonempty) :
    ∃ i ∈ S, gFirst (only γ S) = BitVec.ofNat 32 i.val ∧ ∀ n ∈ S, n ≠ i → Ahead γ i n := by
  classical
  obtain ⟨b, hb, hmax⟩ := S.exists_max_image γ hS
  have hT : (S.filter fun x => γ x = γ b).Nonempty := ⟨b, Finset.mem_filter.2 ⟨hb, rfl⟩⟩
  obtain ⟨i, hi, hmin⟩ := (S.filter fun x => γ x = γ b).exists_min_image (fun x => x.val) hT
  obtain ⟨hiS, hib⟩ := Finset.mem_filter.1 hi
  have top : Finset.univ.fold max (Ideal.ofBits FTy.f32 4286578688#32) (only γ S) = (γ b : EReal) := by
    refine le_antisymm ((Finset.fold_max_le _).2 ⟨by rw [ninf]; exact bot_le, fun x _ => ?_⟩) ((Finset.le_fold_max _).2 (Or.inr ⟨b, Finset.mem_univ _, ?_⟩))
    · unfold only
      split
      · exact EReal.coe_le_coe_iff.2 (hmax x ‹_›)
      · exact bot_le
    · exact le_of_eq (if_pos hb).symm
  have eq : ∀ x : Fin 32, only γ S x = (γ b : EReal) ↔ x ∈ S ∧ γ x = γ b := by
    intro x
    unfold only
    split
    · exact ⟨fun e => ⟨‹_›, EReal.coe_eq_coe_iff.1 e⟩, fun e => by rw [e.2]⟩
    · exact ⟨fun e => absurd e (EReal.bot_ne_coe _), fun e => absurd e.1 ‹_›⟩
  have small : ∀ x : Fin 32, (BitVec.ofNat 32 x.val).toInt = (x.val : ℤ) := by
    intro x
    have := x.isLt
    rw [BitVec.toInt_ofNat', Int.bmod_def]
    omega
  refine ⟨i, hiS, ?_, fun n hn hne => ?_⟩
  · apply BitVec.eq_of_toInt_eq
    unfold gFirst
    rw [fold_minsi, small, top]
    refine le_antisymm ((Finset.fold_min_le _).2 (Or.inr ⟨i, Finset.mem_univ _, ?_⟩)) ((Finset.le_fold_min _).2 ⟨by omega, fun x _ => ?_⟩)
    · rw [if_pos ((eq i).2 ⟨hiS, hib⟩), small]
    · by_cases hx : only γ S x = (γ b : EReal)
      · rw [if_pos hx, small]
        have := hmin x (Finset.mem_filter.2 ((eq x).1 hx))
        omega
      · rw [if_neg hx]
        have e32 : (32#32 : BitVec 32).toInt = 32 := rfl
        rw [e32]
        omega
  · unfold Ahead
    rcases lt_or_eq_of_le (hmax n hn) with h1 | h1
    · exact Or.inl (by rw [hib]; exact h1)
    · refine Or.inr ⟨by rw [hib, h1], lt_of_le_of_ne (hmin n (Finset.mem_filter.2 ⟨hn, h1⟩)) fun e => hne (Fin.ext e.symm)⟩

/-- Two words of blocks are the same for the same block alone. -/
theorem word_eq (x i : Fin 32) : IntOp.cmpi .eq (BitVec.ofNat 32 x.val) (BitVec.ofNat 32 i.val) = if x = i then 1#1 else 0#1 := by
  revert x i
  decide +kernel

/-- No block has the word of minus one. -/
theorem word_ne (x : Fin 32) : IntOp.cmpi .eq (BitVec.ofNat 32 x.val) 4294967295#32 = 0#1 := by
  revert x
  decide +kernel

/-- What a number of rounds leaves: a set of past blocks, all the others ahead of it. -/
structure Left (r : ℕ) (S : Finset (Fin 32)) : Prop where
  sub : S ⊆ past j
  card : (past j \ S).card = min r j
  ahead : ∀ m ∈ past j \ S, ∀ n ∈ S, Ahead γ m n

include hj in
/-- There are as many past blocks as the number of the own block. -/
theorem past_card : (past j).card = j := by
  unfold past
  interval_cases j <;> decide

include hj in
/-- A round from such a set. -/
theorem round (r : ℕ) (hr : r < 3) (S : Finset (Fin 32)) (H : Left γ j r S) :
    ∃ S', Left γ j (r + 1) S' ∧ gCut (gTake j (BitVec.ofNat 32 r) (only γ S)) (only γ S) = only γ S'
      ∧ ∀ n, IntOp.cmpi .eq (BitVec.ofNat 32 n.val) (gTake j (BitVec.ofNat 32 r) (only γ S)) = (if n ∈ S ∧ n ∉ S' then 1#1 else 0#1) ∧ (n ∈ S' → n ∈ S) := by
  classical
  have hP := past_card j hj
  have hc : (past j \ S).card + S.card = j := by rw [Finset.card_sdiff_add_card_eq_card H.sub, hP]
  have hw : Scalar.cmpi .sgt (BitVec.ofNat 32 j) (BitVec.ofNat 32 r) = if r < j then 1#1 else 0#1 := by
    interval_cases r <;> interval_cases j <;> rfl
  by_cases hrj : r < j
  · have hne : S.Nonempty := by
      rw [← Finset.card_pos]
      have := H.card
      omega
    obtain ⟨i, hi, hf, ha⟩ := first_of γ S hne
    have hg : gTake j (BitVec.ofNat 32 r) (only γ S) = BitVec.ofNat 32 i.val := by
      unfold gTake
      rw [hw, if_pos hrj, hf]
      rfl
    have hsd : past j \ S.erase i = insert i (past j \ S) := by
      ext x
      simp only [Finset.mem_sdiff, Finset.mem_erase, Finset.mem_insert]
      constructor
      · rintro ⟨h1, h2⟩
        by_cases hx : x = i
        · exact Or.inl hx
        · exact Or.inr ⟨h1, fun h => h2 ⟨hx, h⟩⟩
      · rintro (h | ⟨h1, h2⟩)
        · subst h
          exact ⟨H.sub hi, fun h => h.1 rfl⟩
        · exact ⟨h1, fun h => h2 h.2⟩
    refine ⟨S.erase i, ⟨(Finset.erase_subset _ _).trans H.sub, ?_, ?_⟩, ?_, ?_⟩
    · rw [hsd, Finset.card_insert_of_notMem (fun h => (Finset.mem_sdiff.1 h).2 hi), H.card]
      omega
    · intro m hm n hn
      rw [hsd] at hm
      rcases Finset.mem_insert.1 hm with h | h
      · subst h
        exact ha n (Finset.mem_of_mem_erase hn) (Finset.ne_of_mem_erase hn)
      · exact H.ahead m h n (Finset.mem_of_mem_erase hn)
    · funext x
      unfold gCut
      rw [hg, word_eq, ninf]
      unfold only
      by_cases hx : x = i
      · subst hx
        rw [if_pos rfl, if_neg (Finset.notMem_erase _ _)]
        rfl
      · rw [if_neg hx]
        have : x ∈ S.erase i ↔ x ∈ S := ⟨Finset.mem_of_mem_erase, fun h => Finset.mem_erase.2 ⟨hx, h⟩⟩
        simp only [this]
        rfl
    · intro n
      refine ⟨?_, Finset.mem_of_mem_erase⟩
      rw [hg, word_eq]
      by_cases hx : n = i
      · subst hx
        rw [if_pos rfl, if_pos ⟨hi, Finset.notMem_erase _ _⟩]
      · rw [if_neg hx, if_neg fun h => h.2 (Finset.mem_erase.2 ⟨hx, h.1⟩)]
  · have hg : gTake j (BitVec.ofNat 32 r) (only γ S) = 4294967295#32 := by
      unfold gTake
      rw [hw, if_neg hrj]
      rfl
    refine ⟨S, ⟨H.sub, ?_, H.ahead⟩, ?_, ?_⟩
    · have := H.card
      omega
    · funext x
      unfold gCut
      rw [hg, word_ne]
      rfl
    · intro n
      rw [hg, word_ne, if_neg fun h => h.2 h.1]
      exact ⟨rfl, id⟩

include hj in
/-- The mask of three rounds: zero for the chosen blocks, minus infinity for the others. -/
theorem mask_eq (n : Fin 32) (hd : Decidable (Chosen γ j n)) : gMask (fun n => (γ n : EReal)) j n = if Chosen γ j n then 0 else ⊥ := by
  classical
  have h0 : gPast (fun n => (γ n : EReal)) j = only γ (past j) := by
    funext x
    have hw : IntOp.cmpi .slt (BitVec.ofNat 32 x.val) (BitVec.ofNat 32 j) = if x.val < j then 1#1 else 0#1 := by
      by_cases h : x.val < j
      · rw [if_pos h]; exact (WordCmp.cmpi_slt_ofNat_eq_one_iff (by omega) (by omega)).2 h
      · rw [if_neg h]; exact (WordCmp.cmpi_slt_ofNat_eq_zero_iff (by omega) (by omega)).2 (by omega)
    have hmem : x ∈ past j ↔ x.val < j := by unfold past; simp only [Finset.mem_filter, Finset.mem_univ, true_and]
    unfold gPast only
    rw [hw, ninf]
    by_cases h : x.val < j
    · rw [if_pos h, if_pos (hmem.2 h)]; rfl
    · rw [if_neg h, if_neg fun h' => h (hmem.1 h')]; rfl
  have L0 : Left γ j 0 (past j) := by
    refine ⟨subset_rfl, ?_, fun m hm => ?_⟩
    · rw [Finset.sdiff_self, Finset.card_empty]; omega
    · rw [Finset.sdiff_self] at hm
      exact absurd hm (Finset.notMem_empty _)
  obtain ⟨S1, L1, c1, w1⟩ := round γ j hj 0 (by omega) _ L0
  obtain ⟨S2, L2, c2, w2⟩ := round γ j hj 1 (by omega) _ L1
  obtain ⟨S3, L3, c3, w3⟩ := round γ j hj 2 (by omega) _ L2
  have hmask : gMask (fun n => (γ n : EReal)) j n = if n ∈ past j ∧ n ∉ S3 then 0 else ⊥ := by
    unfold gMask
    rw [h0, c1, c2, (w1 n).1, (w2 n).1, (w3 n).1]
    have a1 := (w1 n).2
    have a2 := (w2 n).2
    have a3 := (w3 n).2
    have s1 : ∀ a b : EReal, Scalar.select 1#1 a b = a := fun _ _ => rfl
    have s0 : ∀ a b : EReal, Scalar.select 0#1 a b = b := fun _ _ => rfl
    by_cases b0 : n ∈ past j <;> by_cases b1 : n ∈ S1 <;> by_cases b2 : n ∈ S2 <;> by_cases b3 : n ∈ S3 <;>
      first | exact absurd (a1 b1) b0 | exact absurd (a2 b2) b1 | exact absurd (a3 b3) b2 | simp [b0, b1, b2, b3, s0, s1]
  rw [hmask]
  refine if_congr ?_ rfl rfl
  have hmem : n ∈ past j ↔ n.val < j := by unfold past; simp only [Finset.mem_filter, Finset.mem_univ, true_and]
  have hP := past_card j hj
  unfold Chosen
  rw [hmem]
  refine and_congr_right fun hn => ⟨fun hS => ?_, fun hlt hS => ?_⟩
  · have hsub : front γ j n ⊆ (past j \ S3).erase n := by
      intro m hm
      obtain ⟨m1, m2⟩ := Finset.mem_filter.1 hm
      refine Finset.mem_erase.2 ⟨?_, Finset.mem_sdiff.2 ⟨m1, fun h => ?_⟩⟩
      · rintro rfl
        exact ahead_asymm γ _ _ m2 m2
      · exact ahead_asymm γ _ _ m2 (L3.ahead n (Finset.mem_sdiff.2 ⟨hmem.2 hn, hS⟩) m h)
    have h1 := Finset.card_le_card hsub
    rw [Finset.card_erase_of_mem (Finset.mem_sdiff.2 ⟨hmem.2 hn, hS⟩), L3.card] at h1
    omega
  · have hsub : past j \ S3 ⊆ front γ j n := fun m hm => Finset.mem_filter.2 ⟨(Finset.mem_sdiff.1 hm).1, L3.ahead m hm n hS⟩
    have h1 := Finset.card_le_card hsub
    have h2 : (past j \ S3).card + S3.card = j := by rw [Finset.card_sdiff_add_card_eq_card L3.sub, hP]
    have h3 : 0 < S3.card := Finset.card_pos.2 ⟨n, hS⟩
    have h4 := L3.card
    omega

end

/-- The gates of head `h` in column `l`: its blocks' means of the keys against the query. -/
def gates (M : Vec Ideal S4x32x128 .f32) (Q : Vec Ideal S1x256x512 .bf16) (h : Fin 4) (l : Fin 256) (n : Fin 32) : EReal :=
  ∑ d : Fin 128, M (ix3 h n d) * Q (ix3 0 l ⟨128 * h.val + d.val, by omega⟩)

/-- The named mask is minus infinity. -/
theorem named_mask : (Named.named (F := Ideal) (φ := .f32) κ "mask" (3464495104#32 : BitVec FTy.f32.bits) : Ideal FTy.f32) = (⊥ : EReal) := IdealRules.named_const.ideal_named_scalar _ _ _ _ rfl

set_option maxHeartbeats 4000000 in
/-- The masks that the call holds before its loop. -/
theorem init_mask (c : Dev nD) (i : grid0.Coords) (arg3 : Memref sig .tc .vmem S1x256x512 .bf16) (harg3 : arg3.IsWhole) (arg7 : Memref sig .tc .vmem S4x32x128 .f32) (harg7 : arg7.IsWhole)
    (x0 : Vec Ideal S1x256x512 .bf16) (xs0 : Vec Ideal S4x32x128 .f32) (arg9 : Memref sig .tc .vmem S4x32x256 .f32) (G : BufTy.Contents (Elt Ideal) arg9.view.ty) (h : Fin 4) (n : Fin 32) (l : Fin 256) :
    arg9.view.read (Elt Ideal) (arg9.view.writes (Elt Ideal) G (kernelRun0_B.sl.HS2_4 c i arg3 harg3 arg7 harg7 x0 xs0)) (ix3 h n l) = gMask (gates xs0 x0 h l) (i 2).val n := by
  unfold kernelRun0_B.sl.HS2_4
  sl_unfold_words
  simp only [List.cons_append, List.nil_append]
  refine (four_planes (d1 := 32) (d2 := 256) arg9 G _ _ _ _ _ _ _ _ _ h n l).trans ?_
  match h with
  | 0 | 1 | 2 | 3 =>
    have e0 : gates xs0 x0 0 l = fun n => ∑ d : Fin 128, xs0 (ix3 0 n d) * x0 (ix3 0 l ⟨d.val, by omega⟩) := by
      funext n
      unfold gates
      refine Finset.sum_congr rfl fun d _ => congrArg₂ (· * ·) rfl (congrArg x0 (query_at _ _ _ _ _ ?_))
      exact Nat.zero_add _
    dsimp only
    simp only [View.readAt_eq_ld, harg3.read_unread, harg7.read_unread]
    unfold_payloads
    pointwise
    rw [named_mask]
    first | rw [e0] | skip
    rfl

end Cert.KernelIdeal.Moba
end
-- ==== Proof.MobaSpec.lean ====
/-
  The attention of one row, over the reals: every key the row sees weighs two to its score, and the output is the weighted mean of
  the values. The sum over all keys splits into the row's own block and the groups of earlier blocks.
-/
module

public import proofs.«01_k».proof.Proof.MobaMask
public import proofs.«01_k».proof.Proof.MobaLoop

@[expose] public section

set_option maxRecDepth 16384

noncomputable section
open Idealize.ShloMosaic Cert.KernelIdeal.Moba

namespace Cert.KernelIdeal.Moba

open Classical in
/-- A sum over the product of two ranges, block by block. -/
theorem sum_blocks {a b n : ℕ} (hn : a * b = n) (F : Fin n → ℝ) : ∑ r, F r = ∑ g : Fin a, ∑ x : Fin b, F ⟨g.val * b + x.val, by
    subst hn
    have h1 := g.isLt
    have h2 := x.isLt
    calc g.val * b + x.val < g.val * b + b := by omega
      _ = (g.val + 1) * b := by ring
      _ ≤ a * b := Nat.mul_le_mul_right b h1⟩ := by
  subst hn
  rw [← Equiv.sum_comp finProdFinEquiv, Fintype.sum_prod_type]
  refine Finset.sum_congr rfl fun g _ => Finset.sum_congr rfl fun x _ => ?_
  congr 1
  apply Fin.ext
  show x.val + b * g.val = g.val * b + x.val
  rw [Nat.mul_comm, Nat.add_comm]

section
variable (q k : Fin 8192 → Fin 128 → ℝ)

/-- The product of a row's query and a key. -/
def dotQ (s r : Fin 8192) : ℝ := ∑ d : Fin 128, k r d * q s d

/-- The score of a key, to base two. -/
def tR (s r : Fin 8192) : ℝ := dotQ q k s r * ((Real.sqrt 128)⁻¹ * (Real.log 2)⁻¹)

/-- The mean of the keys of a block. -/
def meanR (n : Fin 32) (d : Fin 128) : ℝ := (∑ x : Fin 256, k ⟨n.val * 256 + x.val, by omega⟩ d) * (1 / 256)

/-- The gate of a block. -/
def gateR (s : Fin 8192) (n : Fin 32) : ℝ := ∑ d : Fin 128, meanR k n d * q s d

/-- The block of a row. -/
def blockOf (r : Fin 8192) : Fin 32 := ⟨r.val / 256, by omega⟩

/-- A row sees the keys of its own block that are no later, and those of its chosen blocks. -/
def SeesR (s r : Fin 8192) : Prop := (r.val / 256 = s.val / 256 ∧ r.val ≤ s.val) ∨ Chosen (gateR q k s) (s.val / 256) (blockOf r)

open Classical in
/-- What a key weighs for a row. -/
def weight (s r : Fin 8192) : ℝ := if SeesR q k s r then Real.rpow 2 (tR q k s r) else 0

/-- The weighted sum of a column. -/
def wsum (s : Fin 8192) (f : Fin 8192 → ℝ) : ℝ := ∑ r, f r * weight q k s r

/-- The output of a row. -/
def attR (v : Fin 8192 → Fin 128 → ℝ) (s : Fin 8192) (d : Fin 128) : ℝ := wsum q k s (fun r => v r d) / wsum q k s fun _ => 1

/-- A row always sees itself, so its weights add to something positive. -/
theorem wsum_pos (s : Fin 8192) : 0 < wsum q k s fun _ => 1 := by
  have hp : ∀ r, 0 ≤ 1 * weight q k s r := fun r => by
    unfold weight
    rw [one_mul]
    split
    · exact Real.rpow_nonneg (by norm_num) _
    · exact le_refl 0
  refine lt_of_lt_of_le ?_ (Finset.single_le_sum (f := fun r => 1 * weight q k s r) (fun r _ => hp r) (Finset.mem_univ s))
  have hs : SeesR q k s s := Or.inl ⟨rfl, le_rfl⟩
  show 0 < 1 * weight q k s s
  unfold weight
  rw [if_pos hs, one_mul]
  exact Real.rpow_pos_of_pos (by norm_num) _

open Classical in
/-- The sum over the chosen blocks, group by group: no group past the row's own block has any. -/
theorem groups_eq (f t : Fin 8192 → ℝ) (γ : Fin 32 → ℝ) (s : Fin 8192) :
    (∑ r, f r * (if Chosen γ (s.val / 256) (blockOf r) then Real.rpow 2 (t r) else 0))
      = parts (Chosen γ (s.val / 256)) (fun g x => f ⟨g.val * 1024 + x.val, by omega⟩) (fun g x => t ⟨g.val * 1024 + x.val, by omega⟩) ((s.val / 256 + 3) / 4) := by
  have hle : (s.val / 256 + 3) / 4 ≤ 8 := by have := s.isLt; omega
  unfold parts
  generalize hP : (fun g : ℕ => if hg : g < 8 then part (Chosen γ (s.val / 256)) g hg (fun x => f ⟨(⟨g, hg⟩ : Fin 8).val * 1024 + x.val, by omega⟩) (fun x => t ⟨(⟨g, hg⟩ : Fin 8).val * 1024 + x.val, by omega⟩) else 0) = P
  have e1 : (∑ g ∈ Finset.range ((s.val / 256 + 3) / 4), P g) = ∑ g ∈ Finset.range 8, P g := by
    refine Finset.sum_subset (Finset.range_mono hle) fun g hg hn => ?_
    have hg8 : g < 8 := Finset.mem_range.1 hg
    have hn' : ¬ g < (s.val / 256 + 3) / 4 := fun h => hn (Finset.mem_range.2 h)
    rw [← hP]
    refine (dif_pos hg8).trans ?_
    unfold part
    refine Finset.sum_eq_zero fun x _ => ?_
    rw [if_neg, mul_zero]
    intro h
    have h3 : 4 * g + x.val / 256 < s.val / 256 := h.1
    omega
  refine Eq.trans ?_ e1.symm
  rw [Finset.sum_range P, sum_blocks (a := 8) (b := 1024) rfl]
  refine Finset.sum_congr rfl fun g _ => ?_
  rw [← hP]
  refine Eq.trans ?_ (dif_pos g.isLt).symm
  unfold part
  refine Finset.sum_congr rfl fun x _ => ?_
  have e : blockOf ⟨g.val * 1024 + x.val, by omega⟩ = ⟨4 * g.val + x.val / 256, by omega⟩ := by
    apply Fin.ext
    show (g.val * 1024 + x.val) / 256 = 4 * g.val + x.val / 256
    omega
  rw [e]

open Classical in
/-- The sum over a row's own block. -/
theorem own_sum (f t : Fin 8192 → ℝ) (s : Fin 8192) :
    (∑ r : Fin 8192, f r * (if r.val / 256 = s.val / 256 ∧ r.val ≤ s.val then Real.rpow 2 (t r) else 0))
      = ∑ x : Fin 256, f ⟨s.val / 256 * 256 + x.val, by omega⟩ * (if x.val ≤ s.val % 256 then Real.rpow 2 (t ⟨s.val / 256 * 256 + x.val, by omega⟩) else 0) := by
  rw [sum_blocks (a := 32) (b := 256) rfl]
  refine (Finset.sum_eq_single (blockOf s) (fun g _ hg => ?_) (fun h => absurd (Finset.mem_univ _) h)).trans ?_
  · refine Finset.sum_eq_zero fun x _ => ?_
    rw [if_neg, mul_zero]
    rintro ⟨h, -⟩
    refine hg (Fin.ext ?_)
    have h' : (g.val * 256 + x.val) / 256 = s.val / 256 := h
    show g.val = s.val / 256
    have := x.isLt
    omega
  · refine Finset.sum_congr rfl fun x _ => ?_
    have hx := x.isLt
    have e : ((s.val / 256 * 256 + x.val) / 256 = s.val / 256 ∧ s.val / 256 * 256 + x.val ≤ s.val) ↔ x.val ≤ s.val % 256 := by omega
    exact congrArg (f ⟨s.val / 256 * 256 + x.val, by omega⟩ * ·) (if_congr e rfl rfl)

open Classical in
/-- The keys seen are those of the row's own block and those of the groups before it. -/
theorem wsum_split (s : Fin 8192) (f : Fin 8192 → ℝ) :
    wsum q k s f = (∑ x : Fin 256, f ⟨s.val / 256 * 256 + x.val, by omega⟩ * (if x.val ≤ s.val % 256 then Real.rpow 2 (tR q k s ⟨s.val / 256 * 256 + x.val, by omega⟩) else 0))
      + parts (Chosen (gateR q k s) (s.val / 256)) (fun g x => f ⟨g.val * 1024 + x.val, by omega⟩) (fun g x => tR q k s ⟨g.val * 1024 + x.val, by omega⟩) ((s.val / 256 + 3) / 4) := by
  have hsplit : ∀ r : Fin 8192, f r * weight q k s r
      = f r * (if r.val / 256 = s.val / 256 ∧ r.val ≤ s.val then Real.rpow 2 (tR q k s r) else 0)
        + f r * (if Chosen (gateR q k s) (s.val / 256) (blockOf r) then Real.rpow 2 (tR q k s r) else 0) := fun r => by
    unfold weight SeesR
    by_cases h1 : r.val / 256 = s.val / 256 ∧ r.val ≤ s.val
    · have h2 : ¬ Chosen (gateR q k s) (s.val / 256) (blockOf r) := fun h => by
        have h3 : r.val / 256 < s.val / 256 := h.1
        omega
      rw [if_pos (Or.inl h1), if_pos h1, if_neg h2]
      ring
    · by_cases h2 : Chosen (gateR q k s) (s.val / 256) (blockOf r)
      · rw [if_pos (Or.inr h2), if_neg h1, if_pos h2]
        ring
      · rw [if_neg (by rintro (h | h); exact h1 h; exact h2 h), if_neg h1, if_neg h2]
        ring
  have h1 := own_sum f (tR q k s) s
  have h2 := groups_eq f (tR q k s) (gateR q k s) s
  unfold wsum
  rw [Finset.sum_congr rfl fun r _ => hsplit r, Finset.sum_add_distrib, h1, h2]

end
end Cert.KernelIdeal.Moba
end
-- ==== Proof.MobaReal.lean ====
/-
  The attention call's output block, over the reals: every element is the attention of its row.
-/
module

public import proofs.«01_k».proof.Proof.MobaOutA
public import proofs.«01_k».proof.Proof.MobaSpec

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba

/-- The word of the mean's factor. -/
theorem inv256 : Ideal.ofBits FTy.f32 998244352#32 = ((1 / 256 : ℝ) : EReal) := by
  simp [Ideal.ofBits, Ideal.ieee]
  rw [← EReal.coe_mul]
  norm_num

/-- A quotient of reals, by one that is not zero. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A head's column lies in the block. -/
theorem col_lt (h : Fin 4) (d : Fin 128) : 128 * h.val + d.val < 512 := by omega

/-- Row `l` of block `j`. -/
def rowAt (j : ℕ) (hj : j < 32) (l : Fin 256) : Fin 8192 := ⟨j * 256 + l.val, by omega⟩

/-- Its block. -/
theorem rowAt_div (j : ℕ) (hj : j < 32) (l : Fin 256) : (rowAt j hj l).val / 256 = j := by
  show (j * 256 + l.val) / 256 = j
  omega

/-- Its place in the block. -/
theorem rowAt_mod (j : ℕ) (hj : j < 32) (l : Fin 256) : (rowAt j hj l).val % 256 = l.val := by
  show (j * 256 + l.val) % 256 = l.val
  omega

/-- The value columns, with ones below. -/
def vOnes (v : Fin 8192 → Fin 128 → ℝ) (d : Fin 144) (r : Fin 8192) : ℝ := if hd : d.val < 128 then v r ⟨d.val, hd⟩ else 1

section
variable (x0 : Vec Ideal S1x256x512 .bf16) (x1 x2 : Vec Ideal S1x8192x512 .bf16) (q k v : Fin 4 → Fin 8192 → Fin 128 → ℝ) (j : ℕ) (hj : j < 32)
  (hQ : ∀ (h : Fin 4) (l : Fin 256) (d : Fin 128), x0 (ix3 0 l ⟨128 * h.val + d.val, col_lt h d⟩) = ((q h (rowAt j hj l) d : ℝ) : EReal))
  (hK : ∀ (h : Fin 4) (r : Fin 8192) (d : Fin 128), x1 (ix3 0 r ⟨128 * h.val + d.val, col_lt h d⟩) = ((k h r d : ℝ) : EReal))
  (hV : ∀ (h : Fin 4) (r : Fin 8192) (d : Fin 128), x2 (ix3 0 r ⟨128 * h.val + d.val, col_lt h d⟩) = ((v h r d : ℝ) : EReal))

include hQ hK in
/-- The kernel's score of a key. -/
theorem score_real (h : Fin 4) (l : Fin 256) (r : Fin 8192) :
    (∑ d : Fin 128, x1 (ix3 0 r ⟨128 * h.val + d.val, col_lt h d⟩) * x0 (ix3 0 l ⟨128 * h.val + d.val, col_lt h d⟩)) * cE = ((tR (q h) (k h) (rowAt j hj l) r : ℝ) : EReal) := by
  simp only [hK, hQ, ← EReal.coe_mul]
  rw [sum_coe, cE, ← EReal.coe_mul]
  rfl

include hQ hK in
/-- The kernel's gates. -/
theorem gates_real (h : Fin 4) (l : Fin 256) : gates (kmG x1) x0 h l = fun n => ((gateR (q h) (k h) (rowAt j hj l) n : ℝ) : EReal) := by
  funext n
  have e : ∀ d : Fin 128, kmG x1 (ix3 h n d) = ((meanR (k h) n d : ℝ) : EReal) := fun d => by
    show (∑ x : Fin 256, x1 (ix3 0 ⟨n.val * 256 + x.val, _⟩ ⟨128 * h.val + d.val, _⟩)) * Ideal.ofBits FTy.f32 998244352#32 = _
    rw [inv256, Finset.sum_congr rfl fun x _ => hK h ⟨n.val * 256 + x.val, by omega⟩ d, sum_coe, ← EReal.coe_mul]
    rfl
  unfold gates
  simp only [e, hQ, ← EReal.coe_mul]
  rw [sum_coe]
  rfl

include hV in
/-- The kernel's values of earlier groups. -/
theorem vt_real (h : Fin 4) (g : Fin 8) (d : Fin 144) (r : Fin 1024) : vtG x2 (ix4 h g d r) = ((vOnes (v h) d ⟨g.val * 1024 + r.val, by omega⟩ : ℝ) : EReal) := by
  show vtT x2 h.val g.val d.val r.val h.isLt g.isLt r.isLt = _
  unfold vtT vOnes
  by_cases hd : d.val < 128
  · rw [dif_pos hd, dif_pos hd]
    exact hV h _ ⟨d.val, hd⟩
  · rw [dif_neg hd, dif_neg hd]
    exact EReal.coe_one.symm

include hV in
/-- The kernel's values of the row's own block. -/
theorem ownV_real (h : Fin 4) (d : Fin 144) (x : Fin 256) : ownV x2 h d j hj x = ((vOnes (v h) d (rowAt j hj x) : ℝ) : EReal) := by
  unfold ownV vOnes
  by_cases hd : d.val < 128
  · rw [dif_pos hd, dif_pos hd]
    exact hV h _ ⟨d.val, hd⟩
  · rw [dif_neg hd, dif_neg hd]
    exact EReal.coe_one.symm

/-- Head `h`'s sum over the own block. -/
def ownW (h : Fin 4) (l : Fin 256) (d : Fin 144) : ℝ :=
  ∑ x : Fin 256, vOnes (v h) d (rowAt j hj x) * (if x.val ≤ l.val then Real.rpow 2 (tR (q h) (k h) (rowAt j hj l) (rowAt j hj x)) else 0)

include hQ hK hV in
/-- What the loop starts from. -/
theorem start_real (h : Fin 4) (l : Fin 256) : ∃ m : ℝ, ownM x1 x0 h j hj l = (m : EReal) ∧ ∀ d : Fin 144, ownA x1 x2 x0 h j hj d l = ((Real.rpow 2 (-m) * ownW q k v j hj h l d : ℝ) : EReal) := by
  have ht : ∀ x : Fin 256, (∑ d : Fin 128, x1 (ix3 0 ⟨j * 256 + x.val, by omega⟩ ⟨128 * h.val + d.val, col_lt h d⟩) * x0 (ix3 0 l ⟨128 * h.val + d.val, col_lt h d⟩)) * cE = ((tR (q h) (k h) (rowAt j hj l) (rowAt j hj x) : ℝ) : EReal) :=
    fun x => score_real x0 x1 q k j hj hQ hK h l (rowAt j hj x)
  obtain ⟨m, hm⟩ := ownM_real x1 x0 h j hj l (fun x => tR (q h) (k h) (rowAt j hj l) (rowAt j hj x)) ht
  exact ⟨m, hm, fun d => ownA_real x1 x2 x0 h j hj l (fun x => tR (q h) (k h) (rowAt j hj l) (rowAt j hj x)) ht m hm d (fun x => vOnes (v h) d (rowAt j hj x)) (fun x => ownV_real x2 v j hj hV h d x)⟩

open Classical in
/-- The own block's sum with the groups' is the sum over all keys. -/
theorem whole (h : Fin 4) (l : Fin 256) (d : Fin 144) :
    ownW q k v j hj h l d + parts (Chosen (gateR (q h) (k h) (rowAt j hj l)) j) (fun g x => vOnes (v h) d ⟨g.val * 1024 + x.val, by omega⟩) (fun g x => tR (q h) (k h) (rowAt j hj l) ⟨g.val * 1024 + x.val, by omega⟩) ((j + 3) / 4)
      = wsum (q h) (k h) (rowAt j hj l) (vOnes (v h) d) := by
  have e := wsum_split (q h) (k h) (rowAt j hj l) (vOnes (v h) d)
  simp only [rowAt_div, rowAt_mod] at e
  exact e.symm

/-- The output block, once the sums are known. -/
theorem ratio (a : Fin 4 → FVec Ideal S144x256 .f32)
    (ha : ∀ (h : Fin 4) (l : Fin 256), ∃ m : ℝ, ∀ d : Fin 144, a h (ix2 d l) = ((Real.rpow 2 (-m) * wsum (q h) (k h) (rowAt j hj l) (vOnes (v h) d) : ℝ) : EReal))
    (h : Fin 4) (l : Fin 256) (d : Fin 128) : outG a (ix3 0 l ⟨128 * h.val + d.val, col_lt h d⟩) = ((attR (q h) (k h) (v h) (rowAt j hj l) d : ℝ) : EReal) := by
  obtain ⟨m, hm⟩ := ha h l
  have f1 : (⟨(128 * h.val + d.val) / 128, by omega⟩ : Fin 4) = h := Fin.ext (by show (128 * h.val + d.val) / 128 = h.val; omega)
  have f2 : (⟨(128 * h.val + d.val) % 128, by omega⟩ : Fin 144) = ⟨d.val, by omega⟩ := Fin.ext (by show (128 * h.val + d.val) % 128 = d.val; omega)
  show Ideal.div (a ⟨(128 * h.val + d.val) / 128, _⟩ (ix2 ⟨(128 * h.val + d.val) % 128, _⟩ l)) (a ⟨(128 * h.val + d.val) / 128, _⟩ (ix2 ⟨128, _⟩ l)) = _
  rw [f1, f2, hm, hm]
  have o1 : vOnes (v h) ⟨d.val, by omega⟩ = fun r => v h r d := funext fun r => dif_pos d.isLt
  have o2 : vOnes (v h) ⟨128, by omega⟩ = fun _ => 1 := funext fun r => dif_neg (lt_irrefl 128)
  rw [o1, o2]
  have hp := wsum_pos (q h) (k h) (rowAt j hj l)
  have h2 : 0 < Real.rpow 2 (-m) := Real.rpow_pos_of_pos (by norm_num) _
  rw [div_real _ _ (mul_pos h2 hp).ne', mul_div_mul_left _ _ h2.ne']
  rfl

end

section
variable (c : Dev nD) (i : grid0.Coords) (arg3 : Memref sig .tc .vmem S1x256x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S1x256x512 .bf16) (harg6 : arg6.IsWhole) (arg7 : Memref sig .tc .vmem S4x32x128 .f32) (harg7 : arg7.IsWhole) (arg8 : Memref sig .tc .vmem S4x8x144x1024 .bf16) (harg8 : arg8.IsWhole) (arg9 : Memref sig .tc .vmem S4x32x256 .f32) (harg9 : arg9.IsWhole) (arg10 : Memref sig .tc .vmem S4x1024x256 .f32) (harg10 : arg10.IsWhole) (hc0 : ¬cond0_0 i)
    (x0 : Vec Ideal S1x256x512 .bf16) (x1 : Vec Ideal S1x8192x512 .bf16) (x2 : Vec Ideal S1x8192x512 .bf16)
  (q k v : Fin 4 → Fin 8192 → Fin 128 → ℝ)
  (hQ : ∀ (h : Fin 4) (l : Fin 256) (d : Fin 128), x0 (ix3 0 l ⟨128 * h.val + d.val, col_lt h d⟩) = ((q h (rowAt (i 2).val (coord_lt i) l) d : ℝ) : EReal))
  (hK : ∀ (h : Fin 4) (r : Fin 8192) (d : Fin 128), x1 (ix3 0 r ⟨128 * h.val + d.val, col_lt h d⟩) = ((k h r d : ℝ) : EReal))
  (hV : ∀ (h : Fin 4) (r : Fin 8192) (d : Fin 128), x2 (ix3 0 r ⟨128 * h.val + d.val, col_lt h d⟩) = ((v h r d : ℝ) : EReal))

/-- The maxima that the loop starts from. -/
theorem init_mOf (h : Fin 4) (l : Fin 256) : mOf h (accA c i arg3 harg3 arg4 harg4 arg5 harg5 x0 x1 x2) (ix2 0 l) = ownM x1 x0 h (i 2).val (coord_lt i) l := by
  obtain ⟨h0, h1, h2, h3⟩ := init_m c i arg3 harg3 arg4 harg4 x0 x1 l
  unfold mOf accA
  dsimp only
  match h with
  | 0 => exact h0
  | 1 => exact h1
  | 2 => exact h2
  | 3 => exact h3

/-- The sums that the loop starts from. -/
theorem init_aOf (h : Fin 4) (d : Fin 144) (l : Fin 256) : aOf h (accA c i arg3 harg3 arg4 harg4 arg5 harg5 x0 x1 x2) (ix2 d l) = ownA x1 x2 x0 h (i 2).val (coord_lt i) d l := by
  obtain ⟨h0, h1, h2, h3⟩ := init_a c i arg3 harg3 arg4 harg4 arg5 harg5 x0 x1 x2 d l
  unfold aOf accA
  dsimp only
  match h with
  | 0 => exact h0
  | 1 => exact h1
  | 2 => exact h2
  | 3 => exact h3

/-- The queries that the loop uses. -/
theorem pick_q (h : Fin 4) : pick4 (kernelRun0_B.sl.r c arg3 harg3 x0) (kernelRun0_B.sl.r_1 c arg3 harg3 x0) (kernelRun0_B.sl.r_2 c arg3 harg3 x0) (kernelRun0_B.sl.r_3 c arg3 harg3 x0) h = qh x0 h := by
  obtain ⟨h0, h1, h2, h3⟩ := init_q c arg3 harg3 x0
  match h with
  | 0 => exact h0
  | 1 => exact h1
  | 2 => exact h2
  | 3 => exact h3

include hQ hK hV in
/-- The output block of a first point: only the own block counts. -/
theorem value_A (hi : (i 2).val = 0) (h : Fin 4) (l : Fin 256) (d : Fin 128) :
    outG (fun h => aOf h (accA c i arg3 harg3 arg4 harg4 arg5 harg5 x0 x1 x2)) (ix3 0 l ⟨128 * h.val + d.val, col_lt h d⟩) = ((attR (q h) (k h) (v h) (rowAt (i 2).val (coord_lt i) l) d : ℝ) : EReal) := by
  classical
  refine ratio q k v (i 2).val (coord_lt i) _ (fun h l => ?_) h l d
  obtain ⟨m, -, hm⟩ := start_real x0 x1 x2 q k v (i 2).val (coord_lt i) hQ hK hV h l
  refine ⟨m, fun d => ?_⟩
  rw [init_aOf, hm, ← whole]
  have z : ((i 2).val + 3) / 4 = 0 := by omega
  rw [z]
  unfold parts
  rw [Finset.range_zero, Finset.sum_empty, add_zero]

include hQ hK hV in
/-- The output block of a later point. -/
theorem value_B (h : Fin 4) (l : Fin 256) (d : Fin 128) :
    outG (fun h => aOf h (accB c i arg3 harg3 arg4 harg4 arg5 harg5 arg6 harg6 arg7 harg7 arg8 harg8 arg9 harg9 arg10 harg10 x0 x1 x2 (kmG x1) (vtG x2))) (ix3 0 l ⟨128 * h.val + d.val, col_lt h d⟩) = ((attR (q h) (k h) (v h) (rowAt (i 2).val (coord_lt i) l) d : ℝ) : EReal) := by
  classical
  refine ratio q k v (i 2).val (coord_lt i) _ (fun h l => ?_) h l d
  choose m0 hm0 ha0 using start_real x0 x1 x2 q k v (i 2).val (coord_lt i) hQ hK hV
  have hT : (k0_t2_loop i).trips ≤ 8 := by rw [trips2]; have := coord_lt i; omega
  have S := loop_state c i arg3 harg3 arg4 harg4 arg5 harg5 arg6 harg6 arg7 harg7 arg8 harg8 arg9 harg9 arg10 harg10
    (kernelRun0_B.sl.r c arg3 harg3 x0) (kernelRun0_B.sl.r_1 c arg3 harg3 x0) (kernelRun0_B.sl.r_2 c arg3 harg3 x0) (kernelRun0_B.sl.r_3 c arg3 harg3 x0)
    (kernelRun0_B.sl.r_28 c i arg3 harg3 arg4 harg4 x0 x1) (kernelRun0_B.sl.r_29 c i arg3 harg3 arg4 harg4 arg5 harg5 x0 x1 x2) (kernelRun0_B.sl.r_30 c i arg3 harg3 arg4 harg4 x0 x1) (kernelRun0_B.sl.r_31 c i arg3 harg3 arg4 harg4 arg5 harg5 x0 x1 x2) (kernelRun0_B.sl.r_32 c i arg3 harg3 arg4 harg4 x0 x1) (kernelRun0_B.sl.r_33 c i arg3 harg3 arg4 harg4 arg5 harg5 x0 x1 x2) (kernelRun0_B.sl.r_34 c i arg3 harg3 arg4 harg4 x0 x1) (kernelRun0_B.sl.r_35 c i arg3 harg3 arg4 harg4 arg5 harg5 x0 x1 x2) (kernelRun0_B.sl.v385 i) 1#32 (harg4.unread x1) (harg8.unread (vtG x2)) (arg9.view.writes (Elt Ideal) arg9.view.junk (kernelRun0_B.sl.HS2_4 c i arg3 harg3 arg7 harg7 x0 (kmG x1)))
    (arg10.view.writes (Elt Ideal) arg10.view.junk (kernelRun0_B.sl.HS3_4 c arg3 harg3 arg4 harg4 x0 x1)) (accA c i arg3 harg3 arg4 harg4 arg5 harg5 x0 x1 x2)
    (fun h l => Chosen (gateR (q h) (k h) (rowAt (i 2).val (coord_lt i) l)) (i 2).val)
    (fun h l g r => tR (q h) (k h) (rowAt (i 2).val (coord_lt i) l) ⟨g.val * 1024 + r.val, by omega⟩)
    (fun h d g r => vOnes (v h) d ⟨g.val * 1024 + r.val, by omega⟩) m0 (ownW q k v (i 2).val (coord_lt i)) hT
    (fun h g r l => by
      rw [harg4.read_unread, pick_q]
      exact score_real x0 x1 q k (i 2).val (coord_lt i) hQ hK h l ⟨g.val * 1024 + r.val, by omega⟩)
    (fun h g d r => by
      rw [harg8.read_unread]
      exact vt_real x2 v (i 2).val hV h g d r)
    (fun h n l => by
      rw [init_mask, gates_real x0 x1 q k (i 2).val (coord_lt i) hQ hK]
      exact mask_eq _ _ (coord_lt i) n _)
    (fun h r l => by
      rw [init_S]
      exact score_real x0 x1 q k (i 2).val (coord_lt i) hQ hK h l ⟨0 * 1024 + r.val, by omega⟩)
    (fun h l => (init_mOf c i arg3 harg3 arg4 harg4 arg5 harg5 x0 x1 x2 h l).trans (hm0 h l))
    (fun h l d => (init_aOf c i arg3 harg3 arg4 harg4 arg5 harg5 x0 x1 x2 h d l).trans (ha0 h l d))
    (k0_t2_loop i).trips le_rfl
  obtain ⟨m, -, hm⟩ := S.2 h l
  refine ⟨m, fun d => (hm d).trans ?_⟩
  rw [trips2, whole]

end
end Cert.KernelIdeal.Moba
end
-- ==== Proof.MobaValue.lean ====
/-
  What the attention call leaves in its result, element by element: the attention of the row.
-/
module

public import proofs.«01_k».proof.Proof.MobaReal
public import proofs.«01_k».proof.Proof.MobaCarry
public import Idealize.ShloMosaic.Lib.Pipeline.Value

@[expose] public section

set_option maxRecDepth 16384

noncomputable section
open Idealize.ShloMosaic Idealize.ShloMosaic.TcCoe Idealize.SL.Sem Cert.KernelIdeal Cert.KernelIdeal.Gen Idealize.ShloMosaic.Tactic

namespace Cert.KernelIdeal.Moba
open Cert.KernelIdeal.MobaV

/-- The queries of sequence `b` and head `H`. -/
def qOf (x : S2x8192x9216.Idx → ℝ) (b : Fin 2) (H : Fin 8) : Fin 8192 → Fin 128 → ℝ := fun r d => x (ix3 b r ⟨4096 + (H.val * 128 + d.val), by omega⟩)
/-- The keys of sequence `b` and head `H`. -/
def kOf (x : S2x8192x9216.Idx → ℝ) (b : Fin 2) (H : Fin 8) : Fin 8192 → Fin 128 → ℝ := fun r d => x (ix3 b r ⟨5120 + (H.val * 128 + d.val), by omega⟩)
/-- The values of sequence `b` and head `H`. -/
def vOf (x : S2x8192x9216.Idx → ℝ) (b : Fin 2) (H : Fin 8) : Fin 8192 → Fin 128 → ℝ := fun r d => x (ix3 b r ⟨6144 + (H.val * 128 + d.val), by omega⟩)
/-- The attention of a row, of sequence `b` and head `H`. -/
def attOf (x : S2x8192x9216.Idx → ℝ) (b : Fin 2) (H : Fin 8) (s : Fin 8192) (d : Fin 128) : ℝ := attR (qOf x b H) (kOf x b H) (vOf x b H) s d

/-- It depends on the numbers alone. -/
theorem attOf_congr (x : S2x8192x9216.Idx → ℝ) {b b' : Fin 2} {H H' : Fin 8} {s s' : Fin 8192} {d d' : Fin 128} (e0 : b.val = b'.val) (e1 : H.val = H'.val) (e2 : s.val = s'.val) (e3 : d.val = d'.val) :
    attOf x b H s d = attOf x b' H' s' d' := by
  rw [Fin.ext e0, Fin.ext e1, Fin.ext e2, Fin.ext e3]

/-- The third coordinate of a point. -/
theorem coord2 : ∀ t : Fin cfg0.N, (grid0.coords t 2).val = t.val % 32 :=
  (by decide +kernel : ∀ t : Fin grid0.N, (grid0.coords t 2).val = t.val % 32)

/-- The output's block at each point. -/
theorem idx_o : ∀ t : Fin cfg0.N, win0_3.index t (0 : Fin 3) = t.val / 64 ∧ win0_3.index t (1 : Fin 3) = t.val % 32 ∧ win0_3.index t (2 : Fin 3) = t.val / 32 % 2 :=
  (by decide +kernel : ∀ t : Fin grid0.N, _)

variable (m : (ℓ : Loc nD τ sig) → Buf (Elt Ideal) ℓ) (c : Dev nD) (x : S2x8192x9216.Idx → ℝ)
  (hx : ∀ i : S2x8192x9216.Idx, m ((c : Thread nD τ).loc main_arg0) i = ((x i : ℝ) : EReal))

/-- The sequence of a point. -/
abbrev seqOf (t : Fin cfg0.N) : Fin 2 := ⟨t.val / 64, by have := lt_N t; omega⟩
/-- The head of a point. -/
abbrev headOf (t : Fin cfg0.N) (h : Fin 4) : Fin 8 := ⟨4 * (t.val / 32 % 2) + h.val, by omega⟩

include hx in
/-- A point's queries are real. -/
theorem real_q (t : Fin cfg0.N) (h : Fin 4) (l : Fin 256) (d : Fin 128) :
    (iblk m c 0 t : Vec Ideal S1x256x512 .bf16) (ix3 0 l ⟨128 * h.val + d.val, by omega⟩) = ((qOf x (seqOf t) (headOf t h) (rowAt (grid0.coords t 2).val (coord_lt _) l) d : ℝ) : EReal) := by
  refine (iblk_q m c t l ⟨128 * h.val + d.val, by omega⟩).trans ((hx _).trans (congrArg (fun i => ((x i : ℝ) : EReal)) ?_))
  congr 1 <;> apply Fin.ext
  · show t.val % 32 * 256 + l.val = (grid0.coords t 2).val * 256 + l.val
    rw [coord2]
  · show 4096 + 512 * (t.val / 32 % 2) + (128 * h.val + d.val) = 4096 + ((4 * (t.val / 32 % 2) + h.val) * 128 + d.val)
    omega

include hx in
/-- A point's keys are real. -/
theorem real_k (t : Fin cfg0.N) (h : Fin 4) (r : Fin 8192) (d : Fin 128) :
    (iblk m c 1 t : Vec Ideal S1x8192x512 .bf16) (ix3 0 r ⟨128 * h.val + d.val, by omega⟩) = ((kOf x (seqOf t) (headOf t h) r d : ℝ) : EReal) := by
  refine (iblk_k m c t r ⟨128 * h.val + d.val, by omega⟩).trans ((hx _).trans (congrArg (fun i => ((x i : ℝ) : EReal)) ?_))
  congr 1
  apply Fin.ext
  show 5120 + 512 * (t.val / 32 % 2) + (128 * h.val + d.val) = 5120 + ((4 * (t.val / 32 % 2) + h.val) * 128 + d.val)
  omega

include hx in
/-- A point's values are real. -/
theorem real_v (t : Fin cfg0.N) (h : Fin 4) (r : Fin 8192) (d : Fin 128) :
    (iblk m c 2 t : Vec Ideal S1x8192x512 .bf16) (ix3 0 r ⟨128 * h.val + d.val, by omega⟩) = ((vOf x (seqOf t) (headOf t h) r d : ℝ) : EReal) := by
  refine (iblk_v m c t r ⟨128 * h.val + d.val, by omega⟩).trans ((hx _).trans (congrArg (fun i => ((x i : ℝ) : EReal)) ?_))
  congr 1
  apply Fin.ext
  show 6144 + 512 * (t.val / 32 % 2) + (128 * h.val + d.val) = 6144 + ((4 * (t.val / 32 % 2) + h.val) * 128 + d.val)
  omega

/-- The scratch that a later point finds. -/
theorem before (t : Fin cfg0.N) (h0 : ¬t.val % 32 = 0) :
    (outsAt0 m c (t.val - 1) (Nat.lt_of_le_of_lt (Nat.sub_le _ _) t.isLt)).2 = (kmG (iblk m c 1 t), vtG (iblk m c 2 t)) := by
  obtain ⟨n, hn⟩ := t
  cases n with
  | zero => exact absurd (Nat.zero_mod 32) h0
  | succ n =>
    rw [iblk1_succ m c n hn h0, iblk2_succ m c n hn h0]
    exact carried m c n (Nat.lt_of_succ_lt hn)

include hx in
/-- The output block after a point. -/
theorem out_real (t : Fin cfg0.N) (h : Fin 4) (l : Fin 256) (d : Fin 128) :
    ((outsAt0 m c t.val t.isLt).1 : Vec Ideal S1x256x512 .bf16) (ix3 0 l ⟨128 * h.val + d.val, by omega⟩)
      = ((attOf x (seqOf t) (headOf t h) (rowAt (grid0.coords t 2).val (coord_lt _) l) d : ℝ) : EReal) := by
  by_cases h0 : t.val % 32 = 0
  · rw [outsAt0_A m c t h0]
    dsimp only
    rw [out_A _ _ _ _ _ _ _ _ _ _ _ _ _ _ _ _ _ _ _ _ _ _ ((coord2 t).trans h0)]
    exact value_A _ _ _ _ _ _ _ _ _ _ _ _ _ (fun h => vOf x (seqOf t) (headOf t h)) (real_q m c x hx t) (real_k m c x hx t) (real_v m c x hx t) ((coord2 t).trans h0) h l d
  · rw [outsAt0_B m c t h0]
    dsimp only
    rw [before m c t h0]
    dsimp only
    rw [out_B]
    exact value_B _ _ _ _ _ _ _ _ _ _ _ _ _ _ _ _ _ _ _ _ _ _ _ (fun h => vOf x (seqOf t) (headOf t h)) (real_q m c x hx t) (real_k m c x hx t) (real_v m c x hx t) h l d

/-- The result of the call. -/
def result : Buf (Elt Ideal) ((c : Thread nD τ).loc main_v0) := fun i : S2x8192x1024.Idx =>
  ((attOf x (i 0) ⟨(i 2).val / 128, by have h : (i 2).val < 1024 := (i 2).isLt; omega⟩ (i 1) ⟨(i 2).val % 128, by omega⟩ : ℝ) : EReal)

include hx in
/-- What each point writes back is its block of the result. -/
theorem flushed_eq (t : Fin cfg0.N) : (dats m 0 c).flushed 3 t = ((cfg0.win 3).blk t).view.read (Elt Ideal) (result c x) := by
  rw [flushed3]
  obtain ⟨e0, e1, e2⟩ := idx_o t
  have ht := lt_N t
  funext y
  have hy0 : (y 0).val < 1 := (y 0).isLt
  have hy1 : (y 1).val < 256 := (y 1).isLt
  have hy2 : (y 2).val < 512 := (y 2).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 256 + 1 * (y 1).val := rfl
  have hb2 : (((cfg0.win 3).blk t).view.emb y 2).val = win0_3.index t (2 : Fin 3) * 512 + 1 * (y 2).val := rfl
  show (outsAt0 m c t.val t.isLt).1 ((cfg0.win 3).xinj (grid0.coords t) y) = result c x (((cfg0.win 3).blk t).view.emb y)
  have hy : ((cfg0.win 3).xinj (grid0.coords t) y : S1x256x512.Idx) = ix3 0 ⟨(y 1).val, hy1⟩ ⟨128 * ((y 2).val / 128) + (y 2).val % 128, by omega⟩ := by
    funext a
    apply Fin.ext
    match a with
    | ⟨0, _⟩ => show (y 0).val = 0; omega
    | ⟨1, _⟩ => rfl
    | ⟨2, _⟩ => show (y 2).val = 128 * ((y 2).val / 128) + (y 2).val % 128; omega
  rw [hy]
  refine (out_real m c x hx t ⟨(y 2).val / 128, by omega⟩ ⟨(y 1).val, hy1⟩ ⟨(y 2).val % 128, by omega⟩).trans ?_
  unfold result
  refine congrArg (fun z : ℝ => (z : EReal)) (attOf_congr x ?_ ?_ ?_ ?_)
  · show t.val / 64 = (((cfg0.win 3).blk t).view.emb y 0).val
    omega
  · show 4 * (t.val / 32 % 2) + (y 2).val / 128 = (((cfg0.win 3).blk t).view.emb y 2).val / 128
    omega
  · show (grid0.coords t 2).val * 256 + (y 1).val = (((cfg0.win 3).blk t).view.emb y 1).val
    rw [coord2]
    omega
  · show (y 2).val % 128 = (((cfg0.win 3).blk t).view.emb y 2).val % 128
    omega

/-- An index is in a point's block when its coordinates are in range. -/
theorem mem_blk (t : Fin cfg0.N) (i : S2x8192x1024.Idx) :
    i ∈ ((cfg0.win 3).blk t).view.set ↔ ∀ a : Fin 3, win0_3.index t a * S1x256x512.size a ≤ (i a).val ∧ (i a).val < win0_3.index t a * S1x256x512.size a + S1x256x512.size a := by
  show i ∈ ((View.whole main_v0).slice (win0_3.rect t)).set ↔ _
  rw [View.set_slice_whole, Rect.mem_set_unit]
  exact Iff.rfl

include hx in
/-- So the array ends holding the result: the blocks tile it. -/
theorem final_eq : (dats m 0 c).arrAt 3 cfg0.N = result c x :=
  (dats m 0 c).arrAt_eq_of_cover 3 _ (fun t _ => flushed_eq m c x hx t) (fun i => by
    have h0 : (i 0).val < 2 := (i 0).isLt
    have h1 : (i 1).val < 8192 := (i 1).isLt
    have h2 : (i 2).val < 1024 := (i 2).isLt
    have hN : 64 * (i 0).val + 32 * ((i 2).val / 512) + (i 1).val / 256 < cfg0.N := lt_of_lt_of_eq (by omega) N_0.symm
    obtain ⟨e0, e1, e2⟩ := idx_o ⟨_, hN⟩
    refine ⟨⟨_, hN⟩, flush0_3 _, (mem_blk _ i).2 fun a => ?_⟩
    match a with
    | ⟨0, _⟩ =>
      show win0_3.index ⟨_, hN⟩ (0 : Fin 3) * 1 ≤ (i 0).val ∧ (i 0).val < win0_3.index ⟨_, hN⟩ (0 : Fin 3) * 1 + 1
      rw [e0]
      dsimp only
      omega
    | ⟨1, _⟩ =>
      show win0_3.index ⟨_, hN⟩ (1 : Fin 3) * 256 ≤ (i 1).val ∧ (i 1).val < win0_3.index ⟨_, hN⟩ (1 : Fin 3) * 256 + 256
      rw [e1]
      dsimp only
      omega
    | ⟨2, _⟩ =>
      show win0_3.index ⟨_, hN⟩ (2 : Fin 3) * 512 ≤ (i 2).val ∧ (i 2).val < win0_3.index ⟨_, hN⟩ (2 : Fin 3) * 512 + 512
      rw [e2]
      dsimp only
      omega)

end Cert.KernelIdeal.Moba
end
-- ==== Proof.MobaPlain.lean ====
/-
  The attention written plainly, over the reals: the reference's gates, its rank counts and its scores, and their quotient.
-/
module

public import proofs.«01_k».proof.Proof.MobaSpec

@[expose] public section

set_option maxRecDepth 16384

noncomputable section
open Idealize.ShloMosaic Idealize.ShloMosaic.TcCoe Idealize.SL.Sem

namespace Cert.KernelIdeal.Moba

/-- The bit of a proposition. -/
def bitOf (p : Prop) : BitVec 1 := by
  classical exact BitVec.ofBool (decide p)

/-- However it is decided. -/
theorem bitOf_eq (p : Prop) [Decidable p] : BitVec.ofBool (decide p) = bitOf p := by
  unfold bitOf
  congr!

/-- The gate of block `n` for row `r`: minus infinity unless the block is past. -/
def gateX (q : Fin 8192 → Fin 128 → EReal) (k : Fin 8192 → Fin 128 → EReal) (r : Fin 8192) (n : Fin 32) : EReal :=
  Scalar.select (IntOp.cmpi CmpIPredicate.slt (BitVec.ofNat 32 n.val) (BitVec.ofNat 32 (r.val / 256)))
    (∑ d : Fin 128, q r d * Ideal.div (∑ y : Fin 256, k ⟨n.val * 256 + y.val, by omega⟩ d) (Ideal.ofBits FTy.f32 1132462080#32))
    (Ideal.ofBits FTy.f32 4286578688#32)

/-- The score of key `x` for row `r`: minus infinity unless the row sees it. -/
def scoreX (q : Fin 8192 → Fin 128 → EReal) (k : Fin 8192 → Fin 128 → EReal) (r x : Fin 8192) : EReal :=
  Scalar.select
    (IntOp.ori
      (IntOp.andi (IntOp.cmpi CmpIPredicate.slt (BitVec.ofNat 32 (x.val / 256)) (BitVec.ofNat 32 (r.val / 256)))
        (bitOf (((∑ n : Fin 32, FloatOps.uitofp (F := Ideal) FTy.f32
          (IntOp.ori (bitOf ((gateX q k r ⟨x.val / 256, by omega⟩ < gateX q k r n)))
            (IntOp.andi (bitOf ((gateX q k r n = gateX q k r ⟨x.val / 256, by omega⟩)))
              (IntOp.cmpi CmpIPredicate.slt (BitVec.ofNat 32 n.val) (BitVec.ofNat 32 (x.val / 256)))))) < Ideal.ofBits FTy.f32 1077936128#32))))
      (IntOp.andi (IntOp.cmpi CmpIPredicate.eq (BitVec.ofNat 32 (x.val / 256)) (BitVec.ofNat 32 (r.val / 256)))
        (IntOp.cmpi CmpIPredicate.sle (BitVec.ofNat 32 x.val) (BitVec.ofNat 32 r.val))))
    (Ideal.div (∑ d : Fin 128, q r d * k x d) (Ideal.sqrt (Ideal.ofBits FTy.f32 1124073472#32)))
    (Ideal.ofBits FTy.f32 4286578688#32)

/-- The largest score of row `r`. -/
def mostX (q : Fin 8192 → Fin 128 → EReal) (k : Fin 8192 → Fin 128 → EReal) (r : Fin 8192) : EReal :=
  max (Ideal.ofBits FTy.f32 4286578688#32) (Finset.fold max (Ideal.ofBits FTy.f32 4286578688#32) (fun x : Fin 8192 => scoreX q k r x) Finset.univ)

/-! ## Words of one bit -/

/-- The bit of either. -/
theorem bit_or (a b : BitVec 1) : IntOp.ori a b = 1#1 ↔ a = 1#1 ∨ b = 1#1 := by revert a b; decide
/-- The bit of both. -/
theorem bit_and (a b : BitVec 1) : IntOp.andi a b = 1#1 ↔ a = 1#1 ∧ b = 1#1 := by revert a b; decide
/-- The bit of a proposition is set where it holds. -/
theorem bit_of (p : Prop) : bitOf p = 1#1 ↔ p := by
  unfold bitOf
  by_cases h : p <;> simp [h]
/-- A selection by a bit is a case distinction. -/
theorem select_if (b : BitVec 1) (x y : EReal) (p : Prop) [Decidable p] (h : b = 1#1 ↔ p) : Scalar.select b x y = if p then x else y := by
  unfold Scalar.select
  by_cases hp : p
  · rw [if_pos hp]
    exact if_pos (h.2 hp)
  · rw [if_neg hp]
    exact if_neg fun e => hp (h.1 e)
/-- A bit as a real number. -/
theorem bit_real (b : BitVec 1) (p : Prop) [Decidable p] (h : b = 1#1 ↔ p) : (FloatOps.uitofp (F := Ideal) FTy.f32 b : EReal) = (((if p then 1 else 0 : ℝ)) : EReal) := by
  by_cases hp : p
  · rw [if_pos hp, h.2 hp]
    show (((1#1 : BitVec 1).toNat : ℝ) : EReal) = _
    norm_num
  · have key : ∀ b : BitVec 1, b ≠ 1#1 → b = 0#1 := by decide
    rw [if_neg hp, key b fun e => hp (h.1 e)]
    show (((0#1 : BitVec 1).toNat : ℝ) : EReal) = _
    norm_num

/-- The word of 256. -/
theorem w256 : Ideal.ofBits FTy.f32 1132462080#32 = ((256 : ℝ) : EReal) := by
  simp [Ideal.ofBits, Ideal.ieee]
  rw [← EReal.coe_mul]
  norm_num
/-- The word of 128. -/
theorem w128 : Ideal.ofBits FTy.f32 1124073472#32 = ((128 : ℝ) : EReal) := by
  simp [Ideal.ofBits, Ideal.ieee]
  rw [← EReal.coe_mul]
  norm_num
/-- The word of 3. -/
theorem w3 : Ideal.ofBits FTy.f32 1077936128#32 = ((3 : ℝ) : EReal) := by
  simp [Ideal.ofBits, Ideal.ieee]
  rw [← EReal.coe_mul]
  norm_num

section
variable (q k : Fin 8192 → Fin 128 → ℝ)

/-- A quotient of reals, by one that is not zero. -/
theorem quot_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The gates are real for past blocks, minus infinity for the others. -/
theorem gateX_real (s : Fin 8192) (n : Fin 32) :
    gateX (fun r d => ((q r d : ℝ) : EReal)) (fun r d => ((k r d : ℝ) : EReal)) s n = if n.val < s.val / 256 then ((gateR q k s n : ℝ) : EReal) else ⊥ := by
  unfold gateX
  rw [select_if _ _ _ (n.val < s.val / 256) (WordCmp.cmpi_slt_ofNat_eq_one_iff (by omega) (by omega)), ninf, w256]
  simp only [sum_coe]
  have e : ∀ d : Fin 128, ((q s d : ℝ) : EReal) * Ideal.div ((∑ y : Fin 256, k ⟨n.val * 256 + y.val, by omega⟩ d : ℝ) : EReal) ((256 : ℝ) : EReal) = ((meanR k n d * q s d : ℝ) : EReal) := fun d => by
    rw [quot_real _ _ (by norm_num), ← EReal.coe_mul]
    unfold meanR
    rw [one_div, ← div_eq_mul_inv, mul_comm]
  rw [Finset.sum_congr rfl fun d _ => e d, sum_coe]
  rfl

/-- The rank of a past block counts the past blocks ahead of it. -/
theorem ahead_real (s : Fin 8192) (b n : Fin 32) (hb : b.val < s.val / 256) (G : Fin 32 → EReal)
    (hG : ∀ n, G n = if n.val < s.val / 256 then ((gateR q k s n : ℝ) : EReal) else ⊥) :
    (G b < G n ∨ (G n = G b ∧ n.val < b.val)) ↔ n ∈ front (gateR q k s) (s.val / 256) b := by
  have e : n ∈ front (gateR q k s) (s.val / 256) b ↔ n.val < s.val / 256 ∧ Ahead (gateR q k s) n b := by
    unfold front past
    simp only [Finset.mem_filter, Finset.mem_univ, true_and]
  rw [e, hG b, hG n, if_pos hb]
  by_cases hn : n.val < s.val / 256
  · rw [if_pos hn, EReal.coe_lt_coe_iff, EReal.coe_eq_coe_iff]
    exact ⟨fun h => ⟨hn, h⟩, fun h => h.2⟩
  · rw [if_neg hn]
    refine ⟨fun h => ?_, fun h => absurd h.1 hn⟩
    rcases h with h | h
    · exact absurd h not_lt_bot
    · exact absurd h.1.symm (EReal.coe_ne_bot _)

/-- Ranks as counted. -/
theorem rank_real (s : Fin 8192) (b : Fin 32) (hb : b.val < s.val / 256) (G : Fin 32 → EReal)
    (hG : ∀ n, G n = if n.val < s.val / 256 then ((gateR q k s n : ℝ) : EReal) else ⊥) :
    (∑ n : Fin 32, FloatOps.uitofp (F := Ideal) FTy.f32
          (IntOp.ori (bitOf ((G b < G n)))
            (IntOp.andi (bitOf ((G n = G b)))
              (IntOp.cmpi CmpIPredicate.slt (BitVec.ofNat 32 n.val) (BitVec.ofNat 32 b.val)))) : EReal)
      = (((front (gateR q k s) (s.val / 256) b).card : ℝ) : EReal) := by
  classical
  have e : ∀ n : Fin 32, (FloatOps.uitofp (F := Ideal) FTy.f32
          (IntOp.ori (bitOf ((G b < G n)))
            (IntOp.andi (bitOf ((G n = G b)))
              (IntOp.cmpi CmpIPredicate.slt (BitVec.ofNat 32 n.val) (BitVec.ofNat 32 b.val)))) : EReal)
        = ((if n ∈ front (gateR q k s) (s.val / 256) b then 1 else 0 : ℝ) : EReal) := fun n => by
    refine bit_real _ _ ?_
    rw [bit_or, bit_and, bit_of, bit_of, WordCmp.cmpi_slt_ofNat_eq_one_iff (by omega) (by omega)]
    exact ahead_real q k s b n hb G hG
  rw [Finset.sum_congr rfl fun n _ => e n, sum_coe, Finset.sum_boole]
  congr 3
  ext n
  simp

open Classical in
/-- A row's score of a key: the scaled product where the row sees it. -/
theorem scoreX_real (s x : Fin 8192) :
    scoreX (fun r d => ((q r d : ℝ) : EReal)) (fun r d => ((k r d : ℝ) : EReal)) s x = masked (SeesR q k s x) (dotQ q k s x / Real.sqrt 128) := by
  unfold scoreX
  have hs : Ideal.sqrt ((128 : ℝ) : EReal) = ((Real.sqrt 128 : ℝ) : EReal) := by rw [Ideal.sqrt_coe, if_neg (by norm_num)]
  rw [select_if _ _ _ (SeesR q k s x) ?_, ninf, w128, hs]
  · have e : (∑ d : Fin 128, ((q s d : ℝ) : EReal) * ((k x d : ℝ) : EReal)) = ((dotQ q k s x : ℝ) : EReal) := by
      simp only [← EReal.coe_mul]
      rw [sum_coe]
      unfold dotQ
      exact congrArg _ (Finset.sum_congr rfl fun d _ => mul_comm _ _)
    rw [e, quot_real _ _ (by positivity)]
    rfl
  · rw [bit_or, bit_and, bit_and, bit_of, WordCmp.cmpi_slt_ofNat_eq_one_iff (by omega) (by omega), WordCmp.cmpi_sle_ofNat_eq_one_iff (by omega) (by omega),
      WordCmp.cmpi_eq_ofNat_eq_one_iff (by omega) (by omega)]
    unfold SeesR Chosen
    rw [or_comm]
    refine or_congr Iff.rfl (and_congr_right fun hb => ?_)
    have hr := rank_real q k s (blockOf x) hb _ (fun n => gateX_real q k s n)
    unfold blockOf at hr
    dsimp only at hr
    rw [hr, w3, EReal.coe_lt_coe_iff]
    exact_mod_cast Iff.rfl

/-- A row sees itself. -/
theorem sees_self (s : Fin 8192) : SeesR q k s s := Or.inl ⟨rfl, le_rfl⟩

/-- The largest score is real. -/
theorem mostX_real (s : Fin 8192) : ∃ M : ℝ, mostX (fun r d => ((q r d : ℝ) : EReal)) (fun r d => ((k r d : ℝ) : EReal)) s = (M : EReal) := by
  classical
  unfold mostX
  refine real_of (M := dotQ q k s s / Real.sqrt 128) (le_max_of_le_right ((Finset.le_fold_max _).2 (Or.inr ⟨s, Finset.mem_univ _, ?_⟩))) (max_lt ?_ (fold_lt _ fun x => ?_))
  · rw [scoreX_real]
    unfold masked
    rw [if_pos (sees_self q k s)]
  · rw [ninf]
    exact bot_lt_top
  · rw [scoreX_real]
    exact masked_lt _ _

/-- The power of two of a score is the exponential of the scaled product. -/
theorem pow_exp (s x : Fin 8192) : Real.rpow 2 (tR q k s x) = Real.exp (dotQ q k s x / Real.sqrt 128) := by
  show (2 : ℝ) ^ (tR q k s x) = _
  rw [Real.rpow_def_of_pos (by norm_num)]
  have h : Real.log 2 ≠ 0 := (Real.log_pos (by norm_num)).ne'
  unfold tR
  congr 1
  field_simp

/-- The exponential of a score, relative to a real. -/
theorem exp_real (s x : Fin 8192) (M : ℝ) :
    Ideal.exp (scoreX (fun r d => ((q r d : ℝ) : EReal)) (fun r d => ((k r d : ℝ) : EReal)) s x - (M : EReal)) = ((Real.exp (-M) * weight q k s x : ℝ) : EReal) := by
  classical
  rw [scoreX_real]
  unfold masked weight
  by_cases h : SeesR q k s x
  · rw [if_pos h, if_pos h, ← EReal.coe_sub, Ideal.exp_coe, pow_exp, ← Real.exp_add]
    congr 2
    ring
  · rw [if_neg h, if_neg h, mul_zero, EReal.bot_sub, Ideal.exp_bot]
    rfl

/-- The plain attention over the reals. -/
theorem plain_real (v : Fin 8192 → Fin 128 → ℝ) (s : Fin 8192) (d : Fin 128) :
    (∑ x : Fin 8192, Ideal.div (Ideal.exp (scoreX (fun r d => ((q r d : ℝ) : EReal)) (fun r d => ((k r d : ℝ) : EReal)) s x - mostX (fun r d => ((q r d : ℝ) : EReal)) (fun r d => ((k r d : ℝ) : EReal)) s))
      (∑ y : Fin 8192, Ideal.exp (scoreX (fun r d => ((q r d : ℝ) : EReal)) (fun r d => ((k r d : ℝ) : EReal)) s y - mostX (fun r d => ((q r d : ℝ) : EReal)) (fun r d => ((k r d : ℝ) : EReal)) s)) * ((v x d : ℝ) : EReal))
      = ((attR q k v s d : ℝ) : EReal) := by
  obtain ⟨M, hM⟩ := mostX_real q k s
  rw [hM]
  simp only [exp_real]
  have hW := wsum_pos q k s
  have e1 : (∑ y : Fin 8192, ((Real.exp (-M) * weight q k s y : ℝ) : EReal)) = ((Real.exp (-M) * wsum q k s fun _ => 1 : ℝ) : EReal) := by
    rw [sum_coe]
    unfold wsum
    simp only [one_mul]
    rw [Finset.mul_sum]
  have hne : Real.exp (-M) * (wsum q k s fun _ => 1) ≠ 0 := (mul_pos (Real.exp_pos _) hW).ne'
  have e2 : ∀ x : Fin 8192, Ideal.div ((Real.exp (-M) * weight q k s x : ℝ) : EReal) (∑ y : Fin 8192, ((Real.exp (-M) * weight q k s y : ℝ) : EReal)) * ((v x d : ℝ) : EReal)
      = ((v x d * weight q k s x / wsum q k s fun _ => 1 : ℝ) : EReal) := fun x => by
    rw [e1, quot_real _ _ hne, mul_div_mul_left _ _ (Real.exp_pos (-M)).ne', ← EReal.coe_mul, mul_comm, mul_div_assoc]
  rw [Finset.sum_congr rfl fun x _ => e2 x, sum_coe, ← Finset.sum_div]
  rfl

end
end Cert.KernelIdeal.Moba
end
-- ==== Proof.MobaRef.lean ====
/-
  The attention's reference, read element by element: the plain attention.
-/
module

public import proofs.«01_k».proof.Proof.Gen.ReferenceIdeal.Run
public import proofs.«01_k».proof.Proof.MobaPlain
public import Idealize.ShloMosaic.Lib.Pointwise

@[expose] public section

set_option maxRecDepth 16384

noncomputable section

open Idealize.ShloMosaic Idealize.ShloMosaic.TcCoe Idealize.SL.Sem

namespace Cert.ReferenceIdeal.Moba

open Cert.ReferenceIdeal Cert.ReferenceIdeal.Gen Cert.ReferenceIdeal.Value
open Cert.KernelIdeal.Moba (bitOf bitOf_eq gateX scoreX mostX)

/-! ## The reference's stages -/

/-- The queries by head. -/
def queries (X : FVec Ideal S2x8192x9216 .bf16) : FVec Ideal S2x8x8192x128 .f32 :=
  transpose S2x8x8192x128 [0, 2, 1, 3] (shapeCast _ (extf .f32 (extractStridedSlice S2x8192x1024 ![0, 0, 4096] X slices_S2x8192x9216_S2x8192x1024_0_0_4096) bitsLt_bf16_f32) shapeCasts_S2x8192x1024_S2x8192x8x128) transposes_S2x8192x8x128_S2x8x8192x128_0_2_1_3

/-- The keys by head. -/
def keys (X : FVec Ideal S2x8192x9216 .bf16) : FVec Ideal S2x8x8192x128 .f32 :=
  transpose S2x8x8192x128 [0, 2, 1, 3] (shapeCast _ (extf .f32 (extractStridedSlice S2x8192x1024 ![0, 0, 5120] X slices_S2x8192x9216_S2x8192x1024_0_0_5120) bitsLt_bf16_f32) shapeCasts_S2x8192x1024_S2x8192x8x128) transposes_S2x8192x8x128_S2x8x8192x128_0_2_1_3

/-- The values by head. -/
def values (X : FVec Ideal S2x8192x9216 .bf16) : FVec Ideal S2x8x8192x128 .f32 :=
  transpose S2x8x8192x128 [0, 2, 1, 3] (shapeCast _ (extf .f32 (extractStridedSlice S2x8192x1024 ![0, 0, 6144] X slices_S2x8192x9216_S2x8192x1024_0_0_6144) bitsLt_bf16_f32) shapeCasts_S2x8192x1024_S2x8192x8x128) transposes_S2x8192x8x128_S2x8x8192x128_0_2_1_3

/-- The block of a row. -/
def own : IVec S8192 32 :=
  shapeCast _ (broadcastInDim S32x256 ![0, 1] bcast_S32x1_S32x256_0_1 (broadcastInDim S32x1 ![0] bcast_S32_S32x1_0 (iotaInDim S32 32 0))) shapeCasts_S32x256_S8192

/-- Whether a block is past for a row. -/
def past (O : IVec S8192 32) : IVec S8192x32 1 :=
  cmpi .slt (broadcastInDim S8192x32 ![0, 1] bcast_S1x32_S8192x32_0_1 (broadcastInDim S1x32 ![1] bcast_S32_S1x32_1 (iotaInDim S32 32 0))) (broadcastInDim S8192x32 ![0, 1] bcast_S8192x1_S8192x32_0_1 (broadcastInDim S8192x1 ![0] bcast_S8192_S8192x1_0 O))

/-- A block's mean key. -/
def means (K : FVec Ideal S2x8x8192x128 .f32) : FVec Ideal S2x8x32x128 .f32 :=
  Host.divf (Host.reduceAdd (shapeCast _ K shapeCasts_S2x8x8192x128_S2x8x32x256x128) (constant S_ .f32 0x00000000#32) reducesTo_S2x8x32x256x128_S2x8x32x128_d3 h_S_) (broadcastInDim S2x8x32x128 ![] bcast_S_S2x8x32x128 (constant S_ .f32 0x43800000#32))

/-- The gates. -/
def gates (Q : FVec Ideal S2x8x8192x128 .f32) (M : FVec Ideal S2x8x32x128 .f32) (P : IVec S8192x32 1) : FVec Ideal S2x8x8192x32 .f32 :=
  select (broadcastInDim S2x8x8192x32 ![2, 3] bcast_S8192x32_S2x8x8192x32_2_3 P) (Host.dotGeneral dot_S2x8x8192x128_S2x8x32x128_S2x8x8192x32_3_3_2_2_01_01 none Q M) (broadcastInDim S2x8x8192x32 ![] bcast_S_S2x8x8192x32 (id (constant S_ .f32 0xFF800000#32)))

/-- How many blocks stand ahead of a block. -/
def ranks (G : FVec Ideal S2x8x8192x32 .f32) : FVec Ideal S2x8x8192x32 .f32 :=
  Host.reduceAdd (uitofp .f32 (ori (cmpf .ogt (broadcastInDim S2x8x8192x32x32 ![0, 1, 2, 3, 4] bcast_S2x8x8192x1x32_S2x8x8192x32x32_0_1_2_3_4 (broadcastInDim S2x8x8192x1x32 ![0, 1, 2, 4] bcast_S2x8x8192x32_S2x8x8192x1x32_0_1_2_4 G)) (broadcastInDim S2x8x8192x32x32 ![0, 1, 2, 3, 4] bcast_S2x8x8192x32x1_S2x8x8192x32x32_0_1_2_3_4 (broadcastInDim S2x8x8192x32x1 ![0, 1, 2, 3] bcast_S2x8x8192x32_S2x8x8192x32x1_0_1_2_3 G))) (andi (cmpf .oeq (broadcastInDim S2x8x8192x32x32 ![0, 1, 2, 3, 4] bcast_S2x8x8192x1x32_S2x8x8192x32x32_0_1_2_3_4 (broadcastInDim S2x8x8192x1x32 ![0, 1, 2, 4] bcast_S2x8x8192x32_S2x8x8192x1x32_0_1_2_4 G)) (broadcastInDim S2x8x8192x32x32 ![0, 1, 2, 3, 4] bcast_S2x8x8192x32x1_S2x8x8192x32x32_0_1_2_3_4 (broadcastInDim S2x8x8192x32x1 ![0, 1, 2, 3] bcast_S2x8x8192x32_S2x8x8192x32x1_0_1_2_3 G))) (broadcastInDim S2x8x8192x32x32 ![0, 1, 2, 3, 4] bcast_S1x1x1x32x32_S2x8x8192x32x32_0_1_2_3_4 (broadcastInDim S1x1x1x32x32 ![3, 4] bcast_S32x32_S1x1x1x32x32_3_4 (cmpi .slt (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0))))))))) (constant S_ .f32 0x00000000#32) reducesTo_S2x8x8192x32x32_S2x8x8192x32_d4 h_S_

/-- The blocks a row chooses. -/
def chosen (P : IVec S8192x32 1) (R : FVec Ideal S2x8x8192x32 .f32) : IVec S2x8x8192x32 1 :=
  andi (broadcastInDim S2x8x8192x32 ![0, 1, 2, 3] bcast_S1x1x8192x32_S2x8x8192x32_0_1_2_3 (broadcastInDim S1x1x8192x32 ![2, 3] bcast_S8192x32_S1x1x8192x32_2_3 P)) (cmpf .olt R (broadcastInDim S2x8x8192x32 ![] bcast_S_S2x8x8192x32 (constant S_ .f32 0x40400000#32)))

/-- The keys a row sees. -/
def seen (O : IVec S8192 32) (C : IVec S2x8x8192x32 1) : IVec S2x8x8192x8192 1 :=
  ori (shapeCast _ (broadcastInDim S2x8x8192x32x256 ![0, 1, 2, 3, 4] bcast_S2x8x8192x32x1_S2x8x8192x32x256_0_1_2_3_4 (broadcastInDim S2x8x8192x32x1 ![0, 1, 2, 3] bcast_S2x8x8192x32_S2x8x8192x32x1_0_1_2_3 C)) shapeCasts_S2x8x8192x32x256_S2x8x8192x8192) (broadcastInDim S2x8x8192x8192 ![0, 1, 2, 3] bcast_S1x1x8192x8192_S2x8x8192x8192_0_1_2_3 (broadcastInDim S1x1x8192x8192 ![2, 3] bcast_S8192x8192_S1x1x8192x8192_2_3 (andi (cmpi .eq (broadcastInDim S8192x8192 ![0, 1] bcast_S1x8192_S8192x8192_0_1 (broadcastInDim S1x8192 ![1] bcast_S8192_S1x8192_1 O)) (broadcastInDim S8192x8192 ![0, 1] bcast_S8192x1_S8192x8192_0_1 (broadcastInDim S8192x1 ![0] bcast_S8192_S8192x1_0 O))) (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))))

/-- The masked scores. -/
def scores (Q : FVec Ideal S2x8x8192x128 .f32) (K : FVec Ideal S2x8x8192x128 .f32) (S : IVec S2x8x8192x8192 1) : FVec Ideal S2x8x8192x8192 .f32 :=
  select S (Host.divf (Host.dotGeneral dot_S2x8x8192x128_S2x8x8192x128_S2x8x8192x8192_3_3_2_2_01_01 none Q K) (broadcastInDim S2x8x8192x8192 ![] bcast_S_S2x8x8192x8192 (Host.sqrt (constant S_ .f32 0x43000000#32)))) (broadcastInDim S2x8x8192x8192 ![] bcast_S_S2x8x8192x8192 (id (constant S_ .f32 0xFF800000#32)))

/-- A row's largest score. -/
def most (Z : FVec Ideal S2x8x8192x8192 .f32) : FVec Ideal S2x8x8192 .f32 :=
  Host.reduce FloatOps.maximumf Z (constant S_ .f32 0xFF800000#32) reducesTo_S2x8x8192x8192_S2x8x8192_d3 h_S_

/-- The same, from the mask. -/
def floor (Y : FVec Ideal S2x8x8192 .f32) : FVec Ideal S2x8x8192 .f32 :=
  maximumf (broadcastInDim S2x8x8192 ![] bcast_S_S2x8x8192 (constant S_ .f32 0xFF800000#32)) Y

/-- The scores' exponentials, less the largest. -/
def exps (Z : FVec Ideal S2x8x8192x8192 .f32) (Y : FVec Ideal S2x8x8192 .f32) : FVec Ideal S2x8x8192x8192 .f32 :=
  Host.exp (subf Z (broadcastInDim S2x8x8192x8192 ![0, 1, 2, 3] bcast_S2x8x8192x1_S2x8x8192x8192_0_1_2_3 (broadcastInDim S2x8x8192x1 ![0, 1, 2] bcast_S2x8x8192_S2x8x8192x1_0_1_2 Y)))

/-- The weights. -/
def probs (E : FVec Ideal S2x8x8192x8192 .f32) : FVec Ideal S2x8x8192x8192 .f32 :=
  Host.divf E (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd E (constant S_ .f32 0x00000000#32) reducesTo_S2x8x8192x8192_S2x8x8192_d3 h_S_)))

/-- The weighted values, heads side by side. -/
def outs (A : FVec Ideal S2x8x8192x8192 .f32) (W : FVec Ideal S2x8x8192x128 .f32) : FVec Ideal S2x8192x1024 .bf16 :=
  truncf .bf16 (shapeCast _ (transpose S2x8192x8x128 [0, 2, 1, 3] (Host.dotGeneral dot_S2x8x8192x8192_S2x8x8192x128_S2x8x8192x128_3_2_2_3_01_01 none A W) transposes_S2x8x8192x128_S2x8192x8x128_0_2_1_3) shapeCasts_S2x8192x8x128_S2x8192x1024) bitsLt_bf16_f32

/-- The scores of an array. -/
def scoresOf (X : FVec Ideal S2x8192x9216 .bf16) : FVec Ideal S2x8x8192x8192 .f32 :=
  scores (queries X) (keys X) (seen own (chosen (past own) (ranks (gates (queries X) (means (keys X)) (past own)))))

/-- The result is the stages one after another. -/
theorem res_stages (m : (ℓ : Loc nD τ sig) → Buf (Elt Ideal) ℓ) (c : Dev nD) : res_out0 m c =
    outs (probs (exps (scoresOf (m ((c.tc : Thread nD τ).loc main_arg0))) (floor (most (scoresOf (m ((c.tc : Thread nD τ).loc main_arg0)))))))
      (values (m ((c.tc : Thread nD τ).loc main_arg0))) := by
  unfold res_out0 res_main_v88 outs probs exps floor most scoresOf scores seen chosen ranks gates means past own queries keys values
  exact Eq.refl _

/-! ## The stages at an element -/

section
variable (X : FVec Ideal S2x8192x9216 .bf16) (b : Fin 2) (h : Fin 8) (r x : Fin 8192) (d : Fin 128) (n : Fin 32) (e : Fin 1024)

/-- A query. -/
theorem queries_at : queries X (ix4 b h r d) = X (ix3 b r ⟨4096 + (h.val * 128 + d.val), by omega⟩) := by
  unfold queries
  pointwise

/-- A key. -/
theorem keys_at : keys X (ix4 b h r d) = X (ix3 b r ⟨5120 + (h.val * 128 + d.val), by omega⟩) := by
  unfold keys
  pointwise

/-- A value. -/
theorem values_at : values X (ix4 b h r d) = X (ix3 b r ⟨6144 + (h.val * 128 + d.val), by omega⟩) := by
  unfold values
  pointwise

/-- A row's block. -/
theorem own_at : own (ix1 r) = BitVec.ofNat 32 (r.val / 256) := by
  unfold own
  pointwise

/-- A block is past where its number is below. -/
theorem past_at (O : IVec S8192 32) : past O (ix2 r n) = IntOp.cmpi .slt (BitVec.ofNat 32 n.val) (O (ix1 r)) := by
  unfold past
  pointwise

/-- The mean of a block of keys. -/
theorem means_at (K : FVec Ideal S2x8x8192x128 .f32) : means K (ix4 b h n d) =
    Ideal.div (∑ y : Fin 256, K (ix4 b h ⟨n.val * 256 + y.val, by omega⟩ d)) (Ideal.ofBits FTy.f32 1132462080#32) := by
  unfold means
  pointwise

/-- A gate, from the queries and the means. -/
theorem gates_at (Q : FVec Ideal S2x8x8192x128 .f32) (M : FVec Ideal S2x8x32x128 .f32) (P : IVec S8192x32 1) : gates Q M P (ix4 b h r n) =
    Scalar.select (P (ix2 r n)) (∑ d : Fin 128, Q (ix4 b h r d) * M (ix4 b h n d)) (Ideal.ofBits FTy.f32 4286578688#32) := by
  unfold gates
  pointwise
  exact Eq.refl _

/-- A rank: the blocks of a larger gate, or of the same and earlier. -/
theorem ranks_at (G : FVec Ideal S2x8x8192x32 .f32) : ranks G (ix4 b h r n) = ∑ y : Fin 32, FloatOps.uitofp (F := Ideal) FTy.f32
    (IntOp.ori (bitOf ((G (ix4 b h r n) : EReal) < G (ix4 b h r y))) (IntOp.andi (bitOf ((G (ix4 b h r y) : EReal) = G (ix4 b h r n)))
      (IntOp.cmpi .slt (BitVec.ofNat 32 y.val) (BitVec.ofNat 32 n.val)))) := by
  unfold ranks
  pointwise
  simp only [bitOf_eq]

/-- A block is chosen where it is past and fewer than three stand ahead. -/
theorem chosen_at (P : IVec S8192x32 1) (R : FVec Ideal S2x8x8192x32 .f32) : chosen P R (ix4 b h r n) =
    IntOp.andi (P (ix2 r n)) (bitOf ((R (ix4 b h r n) : EReal) < Ideal.ofBits FTy.f32 1077936128#32)) := by
  unfold chosen
  pointwise
  simp only [bitOf_eq]

/-- A key is seen in a chosen block, or in the row's own up to the row. -/
theorem seen_at (O : IVec S8192 32) (C : IVec S2x8x8192x32 1) : seen O C (ix4 b h r x) =
    IntOp.ori (C (ix4 b h r ⟨x.val / 256, by omega⟩)) (IntOp.andi (IntOp.cmpi .eq (O (ix1 x)) (O (ix1 r)))
      (IntOp.cmpi .sle (BitVec.ofNat 32 x.val) (BitVec.ofNat 32 r.val))) := by
  unfold seen
  pointwise

/-- A score, masked. -/
theorem scores_at (Q K : FVec Ideal S2x8x8192x128 .f32) (S : IVec S2x8x8192x8192 1) : scores Q K S (ix4 b h r x) =
    Scalar.select (S (ix4 b h r x)) (Ideal.div (∑ d : Fin 128, Q (ix4 b h r d) * K (ix4 b h x d)) (Ideal.sqrt (Ideal.ofBits FTy.f32 1124073472#32)))
      (Ideal.ofBits FTy.f32 4286578688#32) := by
  unfold scores
  pointwise
  exact Eq.refl _

/-- The row's largest. -/
theorem most_at (Z : FVec Ideal S2x8x8192x8192 .f32) : most Z (ix3 b h r) =
    Finset.fold max (Ideal.ofBits FTy.f32 4286578688#32) (fun y : Fin 8192 => Z (ix4 b h r y)) Finset.univ := by
  unfold most
  pointwise

/-- And no less than the mask. -/
theorem floor_at (Y : FVec Ideal S2x8x8192 .f32) : floor Y (ix3 b h r) = max (Ideal.ofBits FTy.f32 4286578688#32) (Y (ix3 b h r)) := by
  unfold floor
  pointwise

/-- An exponential. -/
theorem exps_at (Z : FVec Ideal S2x8x8192x8192 .f32) (Y : FVec Ideal S2x8x8192 .f32) :
    exps Z Y (ix4 b h r x) = Ideal.exp (Z (ix4 b h r x) - Y (ix3 b h r)) := by
  unfold exps
  pointwise

/-- A weight. -/
theorem probs_at (E : FVec Ideal S2x8x8192x8192 .f32) : probs E (ix4 b h r x) = Ideal.div (E (ix4 b h r x)) (∑ y : Fin 8192, E (ix4 b h r y)) := by
  unfold probs
  pointwise

/-- An output element. -/
theorem outs_at (A : FVec Ideal S2x8x8192x8192 .f32) (W : FVec Ideal S2x8x8192x128 .f32) : outs A W (ix3 b r e) =
    ∑ x : Fin 8192, A (ix4 b ⟨e.val / 128, by omega⟩ r x) * W (ix4 b ⟨e.val / 128, by omega⟩ x ⟨e.val % 128, by omega⟩) := by
  unfold outs
  pointwise

end

/-! ## The result at an element -/

section
variable (X : FVec Ideal S2x8192x9216 .bf16) (b : Fin 2) (h : Fin 8) (r x : Fin 8192) (n : Fin 32) (q k : Fin 8192 → Fin 128 → EReal)

/-- The gate. -/
theorem gate_of (hq : ∀ d, queries X (ix4 b h r d) = q r d) (hk : ∀ x d, keys X (ix4 b h x d) = k x d) :
    gates (queries X) (means (keys X)) (past own) (ix4 b h r n) = gateX q k r n := by
  rw [gates_at, past_at, own_at]
  simp only [means_at, hq, hk]
  unfold gateX
  exact Eq.refl _

/-- The score. -/
theorem score_of (hq : ∀ d, queries X (ix4 b h r d) = q r d) (hk : ∀ x d, keys X (ix4 b h x d) = k x d) :
    scoresOf X (ix4 b h r x) = scoreX q k r x := by
  unfold scoresOf
  rw [scores_at, seen_at, chosen_at, past_at, ranks_at]
  simp only [own_at, hq, hk, fun n => gate_of X b h r n q k hq hk]
  unfold scoreX
  exact Eq.refl _

end

/-- The reference's result at an element. -/
theorem res_apply (m : (ℓ : Loc nD τ sig) → Buf (Elt Ideal) ℓ) (c : Dev nD) (b : Fin 2) (r : Fin 8192) (e : Fin 1024) (q k : Fin 8192 → Fin 128 → EReal) (v : Fin 8192 → EReal)
    (hq : ∀ r (d : Fin 128), m ((c.tc : Thread nD τ).loc main_arg0) (ix3 b r ⟨4096 + (e.val / 128 * 128 + d.val), by omega⟩) = q r d)
    (hk : ∀ r (d : Fin 128), m ((c.tc : Thread nD τ).loc main_arg0) (ix3 b r ⟨5120 + (e.val / 128 * 128 + d.val), by omega⟩) = k r d)
    (hv : ∀ r, m ((c.tc : Thread nD τ).loc main_arg0) (ix3 b r ⟨6144 + (e.val / 128 * 128 + e.val % 128), by omega⟩) = v r) :
    res_out0 m c (ix3 b r e) = ∑ x : Fin 8192, Ideal.div (Ideal.exp (scoreX q k r x - mostX q k r))
      (∑ y : Fin 8192, Ideal.exp (scoreX q k r y - mostX q k r)) * v x := by
  rw [res_stages]
  generalize m ((c.tc : Thread nD τ).loc main_arg0) = X at hq hk hv ⊢
  have hs : ∀ x, scoresOf X (ix4 b ⟨e.val / 128, by omega⟩ r x) = scoreX q k r x := fun x =>
    score_of X b _ r x q k (fun d => (queries_at X b _ r d).trans (hq r d)) (fun x d => (keys_at X b _ x d).trans (hk x d))
  have hw : ∀ x, values X (ix4 b ⟨e.val / 128, by omega⟩ x ⟨e.val % 128, by omega⟩) = v x := fun x => (values_at X b _ x _).trans (hv x)
  rw [outs_at]
  simp only [probs_at, exps_at, floor_at, most_at, hs, hw]
  unfold mostX
  exact Eq.refl _

end Cert.ReferenceIdeal.Moba

end
-- ==== Proof.MobaAlgebraic.lean ====
/-
  The value claim about the attention call.
-/
module

public import proofs.«01_k».proof.Proof.MobaFinite
public import proofs.«01_k».proof.Proof.MobaValue
public import proofs.«01_k».proof.Proof.MobaRef

@[expose] public section

set_option maxRecDepth 16384

noncomputable section

open Idealize.ShloMosaic Idealize.ShloMosaic.TcCoe Idealize.SL.Sem

namespace Cert.Proof.MobaAlgebraic

open Cert.KernelIdeal.Moba (qOf kOf vOf attOf)

/-- The reference's result, where the array is real. -/
theorem reference_real (m : (ℓ : Loc Cert.ReferenceIdeal.nD Cert.ReferenceIdeal.τ Cert.ReferenceIdeal.sig) → Buf (Elt Ideal) ℓ) (c : Dev Cert.ReferenceIdeal.nD)
    (x : Cert.KernelIdeal.S2x8192x9216.Idx → ℝ)
    (hx : ∀ i : Cert.KernelIdeal.S2x8192x9216.Idx, m ((c.tc : Thread Cert.ReferenceIdeal.nD Cert.ReferenceIdeal.τ).loc Cert.ReferenceIdeal.main_arg0) i = ((x i : ℝ) : EReal))
    (b : Fin 2) (r : Fin 8192) (e : Fin 1024) :
    Cert.ReferenceIdeal.Value.res_out0 m c (ix3 b r e) = ((attOf x b ⟨e.val / 128, by omega⟩ r ⟨e.val % 128, by omega⟩ : ℝ) : EReal) := by
  exact ((Cert.ReferenceIdeal.Moba.res_apply m c b r e (fun r d => ((qOf x b ⟨e.val / 128, by omega⟩ r d : ℝ) : EReal)) (fun r d => ((kOf x b ⟨e.val / 128, by omega⟩ r d : ℝ) : EReal))
    (fun r => ((vOf x b ⟨e.val / 128, by omega⟩ r ⟨e.val % 128, by omega⟩ : ℝ) : EReal)) (fun r d => hx _) (fun r d => hx _) (fun r => hx _)).trans
      (Cert.KernelIdeal.Moba.plain_real _ _ (vOf x b ⟨e.val / 128, by omega⟩) r ⟨e.val % 128, by omega⟩))

/-- From equal real arguments both end with the same result: each element is the attention of its row. -/
theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m ρ m' ρ' hpre hagree
  have hr : ∀ (c : Dev Cert.KernelIdeal.nD) (i : Cert.KernelIdeal.S2x8192x9216.Idx), ∃ r : ℝ, m ((c.tc : Thread Cert.KernelIdeal.nD Cert.KernelIdeal.τ).loc Cert.KernelIdeal.main_arg0) i = (r : EReal) :=
    fun c i => Cert.Proof.MobaFinite.real_of_finite _ (hpre c) i
  choose x hx using hr
  refine ⟨fun c => Cert.KernelIdeal.Moba.result c (x c), ?_, ?_⟩
  · exact (θ_run Cert.KernelIdeal.defs _ _).mono (fun _ h c => ⟨(h c).1.trans (Cert.KernelIdeal.Moba.final_eq m c (x c) (hx c)), (h c).2⟩)
      (Cert.KernelIdeal.MobaV.run_blocks (F := Ideal) m ρ)
  · refine (θ_run Cert.ReferenceIdeal.defs _ _).mono (fun _ h c => ⟨(h c).1.trans ?_, (h c).2⟩)
      (Cert.ReferenceIdeal.Value.run (F := Ideal) m' ρ')
    funext i
    obtain ⟨b, r, e, rfl⟩ : ∃ (b : Fin 2) (r : Fin 8192) (e : Fin 1024), i = ix3 b r e := ⟨i 0, i 1, i 2, eq_ix3 i⟩
    exact reference_real m' c (x c) (fun i => (congrFun (hagree c) i).trans (hx c i)) b r e

end Cert.Proof.MobaAlgebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.InprojClaims
public import proofs.«01_k».proof.Proof.MobaClaims
public import proofs.«01_k».proof.Proof.MobaAlgebraic

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_finite.Gen.facts,
  MobaClaims.frame_k, MobaClaims.frame_ki, fun m ρ _ => MobaClaims.frame_ki m ρ trivial, MobaClaims.frame_ri, fun m ρ _ => MobaClaims.frame_ri m ρ trivial,
  InprojClaims.frame_k, InprojClaims.frame_ki, InprojClaims.frame_ri, MobaClaims.preserves, MobaAlgebraic.algebraic, trivial, InprojClaims.algebraic⟩

end Cert.Proof

end
